-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_off_edges [hPre_off_edges : Cert.Pre_off_edges.Facts] (m : (ℓ : Loc Cert.KernelIdeal.nD Cert.KernelIdeal.τ Cert.KernelIdeal.sig) → Buf (Elt Ideal) ℓ) : Prop :=
  ∀ c : Dev Cert.KernelIdeal.nD,
    (Cert.Pre_off_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_off_edges [hPre_off_edges : Cert.Pre_off_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_off_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_off_edges [hKernelIdeal : Cert.KernelIdeal.Facts] [hPre_off_edges : Cert.Pre_off_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_off_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_off_edges [hReferenceIdeal : Cert.ReferenceIdeal.Facts] [hPre_off_edges : Cert.Pre_off_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_off_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "q29" .bf16 0x3F77#16 ((29 / 30 : ℝ) : EReal)
  ∧ IdealRules.named_const.Statement Cert.KernelIdeal.κ "q28" .bf16 0x3F6F#16 ((14 / 15 : ℝ) : EReal)
  ∧ IdealRules.named_const.Statement Cert.KernelIdeal.κ "q27" .bf16 0x3F66#16 ((9 / 10 : ℝ) : EReal)
  ∧ IdealRules.named_const.Statement Cert.KernelIdeal.κ "q26" .bf16 0x3F5E#16 ((13 / 15 : ℝ) : EReal)
  ∧ IdealRules.named_const.Statement Cert.KernelIdeal.κ "q25" .bf16 0x3F55#16 ((5 / 6 : ℝ) : EReal)
  ∧ IdealRules.named_const.Statement Cert.KernelIdeal.κ "q24" .bf16 0x3F4D#16 ((4 / 5 : ℝ) : EReal)
  ∧ IdealRules.named_const.Statement Cert.KernelIdeal.κ "q23" .bf16 0x3F44#16 ((23 / 30 : ℝ) : EReal)
  ∧ IdealRules.named_const.Statement Cert.KernelIdeal.κ "q22" .bf16 0x3F3C#16 ((11 / 15 : ℝ) : EReal)
  ∧ IdealRules.named_const.Statement Cert.KernelIdeal.κ "q21" .bf16 0x3F33#16 ((7 / 10 : ℝ) : EReal)
  ∧ IdealRules.named_const.Statement Cert.KernelIdeal.κ "q20" .bf16 0x3F2B#16 ((2 / 3 : ℝ) : EReal)
  ∧ IdealRules.named_const.Statement Cert.KernelIdeal.κ "q19" .bf16 0x3F22#16 ((19 / 30 : ℝ) : EReal)
  ∧ IdealRules.named_const.Statement Cert.KernelIdeal.κ "q18" .bf16 0x3F1A#16 ((3 / 5 : ℝ) : EReal)
  ∧ IdealRules.named_const.Statement Cert.KernelIdeal.κ "q17" .bf16 0x3F11#16 ((17 / 30 : ℝ) : EReal)
  ∧ IdealRules.named_const.Statement Cert.KernelIdeal.κ "q16" .bf16 0x3F09#16 ((8 / 15 : ℝ) : EReal)
  ∧ IdealRules.named_const.Statement Cert.KernelIdeal.κ "q14" .bf16 0x3EEF#16 ((7 / 15 : ℝ) : EReal)
  ∧ IdealRules.named_const.Statement Cert.KernelIdeal.κ "q13" .bf16 0x3EDE#16 ((13 / 30 : ℝ) : EReal)
  ∧ IdealRules.named_const.Statement Cert.KernelIdeal.κ "q12" .bf16 0x3ECD#16 ((2 / 5 : ℝ) : EReal)
  ∧ IdealRules.named_const.Statement Cert.KernelIdeal.κ "q11" .bf16 0x3EBC#16 ((11 / 30 : ℝ) : EReal)
  ∧ IdealRules.named_const.Statement Cert.KernelIdeal.κ "q10" .bf16 0x3EAB#16 ((1 / 3 : ℝ) : EReal)
  ∧ IdealRules.named_const.Statement Cert.KernelIdeal.κ "q9" .bf16 0x3E9A#16 ((3 / 10 : ℝ) : EReal)
  ∧ IdealRules.named_const.Statement Cert.KernelIdeal.κ "q8" .bf16 0x3E89#16 ((4 / 15 : ℝ) : EReal)
  ∧ IdealRules.named_const.Statement Cert.KernelIdeal.κ "q7" .bf16 0x3E6F#16 ((7 / 30 : ℝ) : EReal)
  ∧ IdealRules.named_const.Statement Cert.KernelIdeal.κ "q6" .bf16 0x3E4D#16 ((1 / 5 : ℝ) : EReal)
  ∧ IdealRules.named_const.Statement Cert.KernelIdeal.κ "q5" .bf16 0x3E2B#16 ((1 / 6 : ℝ) : EReal)
  ∧ IdealRules.named_const.Statement Cert.KernelIdeal.κ "q4" .bf16 0x3E09#16 ((2 / 15 : ℝ) : EReal)
  ∧ IdealRules.named_const.Statement Cert.KernelIdeal.κ "q3" .bf16 0x3DCD#16 ((1 / 10 : ℝ) : EReal)
  ∧ IdealRules.named_const.Statement Cert.KernelIdeal.κ "q2" .bf16 0x3D89#16 ((1 / 15 : ℝ) : EReal)
  ∧ IdealRules.named_const.Statement Cert.KernelIdeal.κ "q1" .bf16 0x3D09#16 ((1 / 30 : ℝ) : EReal)
  ∧ IdealRules.named_const.Statement Cert.KernelIdeal.κ "total" .f32 0x4A000000#32 ((295147905179366899605 / 140737488355328 : ℝ) : EReal)

def algebraic_KernelIdeal_ReferenceIdeal_pre_off_edges [hKernelIdeal : Cert.KernelIdeal.Facts] [hReferenceIdeal : Cert.ReferenceIdeal.Facts] [hPre_off_edges : Cert.Pre_off_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_off_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_off_edges : Cert.Pre_off_edges.Facts),
    quiescent_Kernel (hKernel := hKernel)
    ∧ quiescent_KernelIdeal (hKernelIdeal := hKernelIdeal)
    ∧ quiescent_KernelIdeal_pre_off_edges (hKernelIdeal := hKernelIdeal) (hPre_off_edges := hPre_off_edges)
    ∧ quiescent_ReferenceIdeal (hReferenceIdeal := hReferenceIdeal)
    ∧ quiescent_ReferenceIdeal_pre_off_edges (hReferenceIdeal := hReferenceIdeal) (hPre_off_edges := hPre_off_edges)
    ∧ preserves_Kernel_KernelIdeal
    ∧ algebraic_KernelIdeal_ReferenceIdeal_pre_off_edges (hKernelIdeal := hKernelIdeal) (hReferenceIdeal := hReferenceIdeal) (hPre_off_edges := hPre_off_edges)
-- ==== Pre_off_edges.lean ====
abbrev S8x19x512x512 : Shape := ⟨4, ![8, 19, 512, 512]⟩
abbrev S8x512x512 : Shape := ⟨3, ![8, 512, 512]⟩
abbrev S8x1x512x512 : Shape := ⟨4, ![8, 1, 512, 512]⟩
abbrev S_ : Shape := ⟨0, ![]⟩

class Facts : Prop where
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x19x512x512 : S_.BroadcastsInDim S8x19x512x512 (![] : Fin 0 → Fin S8x19x512x512.rank)
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)

variable [Facts]

def fn_where {F : FTy → Type} [FloatOps F] (arg0 : IVec S8x19x512x512 1) (arg1 : FVec F S8x19x512x512 .f32) (arg2 : FVec F S_ .f32) : FVec F S8x19x512x512 .f32 :=
  let v0 : FVec F S_ .f32 := id arg2
  let v1 : FVec F S8x19x512x512 .f32 := broadcastInDim S8x19x512x512 ![] bcast_S_S8x19x512x512 v0
  let v2 : FVec F S8x19x512x512 .f32 := select arg0 arg1 v1
  v2

def fn {F : FTy → Type} [FloatOps F] (main_arg0 : FVec F S8x19x512x512 .f32) (main_arg1 : IVec S8x512x512 32) : IVec S8x512x512 1 :=
  let main_v0 : FVec F S8x19x512x512 .f32 := Host.exp main_arg0
  let main_v1 : IVec S8x19x512x512 32 := iotaInDim S8x19x512x512 32 1
  let main_v2 : IVec S8x1x512x512 32 := broadcastInDim S8x1x512x512 ![0, 2, 3] bcast_S8x512x512_S8x1x512x512_0_2_3 main_arg1
  let main_v3 : IVec S8x19x512x512 32 := broadcastInDim S8x19x512x512 ![0, 1, 2, 3] bcast_S8x1x512x512_S8x19x512x512_0_1_2_3 main_v2
  let main_v4 : IVec S8x19x512x512 1 := cmpi .eq main_v1 main_v3
  let main_cst : FVec F S_ .f32 := constant S_ .f32 0x00000000#32
  let main_v5 : FVec F S8x19x512x512 .f32 := fn_where (F := F) main_v4 main_v0 main_cst
  let main_cst_0 : FVec F S_ .f32 := constant S_ .f32 0x00000000#32
  let main_v6 : FVec F S8x512x512 .f32 := (fun x v => Host.reduceAdd x v reducesTo_S8x19x512x512_S8x512x512_d1 h_S_) main_v5 main_cst_0
  let main_cst_1 : FVec F S_ .f32 := constant S_ .f32 0x00000000#32
  let main_v7 : FVec F S8x512x512 .f32 := (fun x v => Host.reduceAdd x v reducesTo_S8x19x512x512_S8x512x512_d1 h_S_) main_v0 main_cst_1
  let main_v8 : FVec F S8x512x512 .f32 := Host.divf main_v6 main_v7
  let main_cst_2 : FVec F S_ .f32 := constant S_ .f32 0x41F00000#32
  let main_v9 : FVec F S8x512x512 .f32 := broadcastInDim S8x512x512 ![] bcast_S_S8x512x512 main_cst_2
  let main_v10 : FVec F S8x512x512 .f32 := mulf main_v8 main_v9
  let main_v11 : FVec F S8x512x512 .f32 := Host.floor main_v10
  let main_v12 : IVec S8x512x512 1 := cmpf .une main_v11 main_v10
  main_v12
-- ==== Kernel.lean ====
abbrev S8x19x512x512 : Shape := ⟨4, ![8, 19, 512, 512]⟩
abbrev S8x512x512 : Shape := ⟨3, ![8, 512, 512]⟩
abbrev S256x256 : Shape := ⟨2, ![256, 256]⟩
abbrev S_ : Shape := ⟨0, ![]⟩
abbrev S1x256x1x256 : Shape := ⟨4, ![1, 256, 1, 256]⟩
abbrev S1x256x19x256 : Shape := ⟨4, ![1, 256, 19, 256]⟩
abbrev S256x4864 : Shape := ⟨2, ![256, 4864]⟩
abbrev S1x1 : Shape := ⟨2, ![1, 1]⟩
abbrev S1x19x256x512 : Shape := ⟨4, ![1, 19, 256, 512]⟩
abbrev S1x256x512 : Shape := ⟨3, ![1, 256, 512]⟩
abbrev S60x512 : Shape := ⟨2, ![60, 512]⟩
abbrev S19x256x512 : Shape := ⟨3, ![19, 256, 512]⟩
abbrev S256x512 : Shape := ⟨2, ![256, 512]⟩
abbrev S4864x512 : Shape := ⟨2, ![4864, 512]⟩
abbrev S1x256 : Shape := ⟨2, ![1, 256]⟩
abbrev S1x512 : Shape := ⟨2, ![1, 512]⟩
abbrev S1 : Shape := ⟨1, ![1]⟩

abbrev nBuf : Space → Nat
  | .hbm => 14
  | .vmem => 7
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S1x256x1x256, .f32⟩
  | .hbm, ⟨10, _⟩ => ⟨S1x256x19x256, .f32⟩
  | .hbm, ⟨11, _⟩ => ⟨S256x4864, .f32⟩
  | .hbm, ⟨12, _⟩ => ⟨S256x4864, .bf16⟩
  | .hbm, ⟨13, _⟩ => ⟨S1x1, .f32⟩
  | .local _ .vmem, ⟨0, _⟩ => ⟨S1x19x256x512, .f32⟩
  | .local _ .vmem, ⟨1, _⟩ => ⟨S1x19x256x512, .f32⟩
  | .local _ .vmem, ⟨2, _⟩ => ⟨S1x256x512, .i32⟩
  | .local _ .vmem, ⟨3, _⟩ => ⟨S1x256x512, .i32⟩
  | .local _ .vmem, ⟨4, _⟩ => ⟨S256x4864, .bf16⟩
  | .local _ .vmem, ⟨5, _⟩ => ⟨S1x1, .f32⟩
  | .local _ .vmem, ⟨6, _⟩ => ⟨S60x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v216 : BitVec 1 := Scalar.cmpi .eq arg0 c15_i32
  let v217 : BitVec 32 := Scalar.extui v216
  let c0_i32_109 : BitVec 32 := 0#32
  let v218 : BitVec 1 := Scalar.cmpi .ne v217 c0_i32_109
  v218

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "q1" => some ((1 / 30 : ℝ) : EReal)
  | "q10" => some ((1 / 3 : ℝ) : EReal)
  | "q11" => some ((11 / 30 : ℝ) : EReal)
  | "q12" => some ((2 / 5 : ℝ) : EReal)
  | "q13" => some ((13 / 30 : ℝ) : EReal)
  | "q14" => some ((7 / 15 : ℝ) : EReal)
  | "q16" => some ((8 / 15 : ℝ) : EReal)
  | "q17" => some ((17 / 30 : ℝ) : EReal)
  | "q18" => some ((3 / 5 : ℝ) : EReal)
  | "q19" => some ((19 / 30 : ℝ) : EReal)
  | "q2" => some ((1 / 15 : ℝ) : EReal)
  | "q20" => some ((2 / 3 : ℝ) : EReal)
  | "q21" => some ((7 / 10 : ℝ) : EReal)
  | "q22" => some ((11 / 15 : ℝ) : EReal)
  | "q23" => some ((23 / 30 : ℝ) : EReal)
  | "q24" => some ((4 / 5 : ℝ) : EReal)
  | "q25" => some ((5 / 6 : ℝ) : EReal)
  | "q26" => some ((13 / 15 : ℝ) : EReal)
  | "q27" => some ((9 / 10 : ℝ) : EReal)
  | "q28" => some ((14 / 15 : ℝ) : EReal)
  | "q29" => some ((29 / 30 : ℝ) : EReal)
  | "q3" => some ((1 / 10 : ℝ) : EReal)
  | "q4" => some ((2 / 15 : ℝ) : EReal)
  | "q5" => some ((1 / 6 : ℝ) : EReal)
  | "q6" => some ((1 / 5 : ℝ) : EReal)
  | "q7" => some ((7 / 30 : ℝ) : EReal)
  | "q8" => some ((4 / 15 : ℝ) : EReal)
  | "q9" => some ((3 / 10 : ℝ) : EReal)
  | "total" => some ((295147905179366899605 / 140737488355328 : ℝ) : EReal)
  | _ => none
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S1x20x1x1 : Shape := ⟨4, ![1, 20, 1, 1]⟩
abbrev S8x20x512x512 : Shape := ⟨4, ![8, 20, 512, 512]⟩
abbrev S1x8x512x512 : Shape := ⟨4, ![1, 8, 512, 512]⟩
abbrev S30 : Shape := ⟨1, ![30]⟩
abbrev S30x1x1x1 : Shape := ⟨4, ![30, 1, 1, 1]⟩
abbrev S30x8x512x512 : Shape := ⟨4, ![30, 8, 512, 512]⟩
abbrev S31 : Shape := ⟨1, ![31]⟩
abbrev S31x1x1x1 : Shape := ⟨4, ![31, 1, 1, 1]⟩
abbrev S31x8x512x512 : Shape := ⟨4, ![31, 8, 512, 512]⟩
abbrev S8x512x512x1 : Shape := ⟨4, ![8, 512, 512, 1]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S1x1 : Shape := ⟨2, ![1, 1]⟩

abbrev nBuf : Space → Nat
  | .hbm => 235
  | .vmem => 0
  | .smem => 0
  | _ => 0

abbrev hbmTy0_0 (i : Nat) : BufTy := match i % 128 with
  | 0 => ⟨S8x19x512x512, .f32⟩
  | 1 => ⟨S8x512x512, .i32⟩
  | 2 => ⟨S_, .f32⟩
  | 3 => ⟨S8x512x512, .f32⟩
  | 4 => ⟨S_, .f32⟩
  | 5 => ⟨S8x512x512, .f32⟩
  | 6 => ⟨S8x512x512, .f32⟩
  | 7 => ⟨S8x1x512x512, .f32⟩
  | 8 => ⟨S8x19x512x512, .f32⟩
  | 9 => ⟨S8x19x512x512, .f32⟩
  | 10 => ⟨S8x19x512x512, .f32⟩
  | 11 => ⟨S_, .f32⟩
  | 12 => ⟨S8x512x512, .f32⟩
  | 13 => ⟨S8x1x512x512, .f32⟩
  | 14 => ⟨S8x19x512x512, .f32⟩
  | 15 => ⟨S8x19x512x512, .f32⟩
  | 16 => ⟨S_, .i32⟩
  | 17 => ⟨S8x512x512, .i32⟩
  | 18 => ⟨S8x512x512, .i1⟩
  | 19 => ⟨S_, .i32⟩
  | 20 => ⟨S_, .i32⟩
  | 21 => ⟨S8x512x512, .i32⟩
  | 22 => ⟨S8x512x512, .i32⟩
  | 23 => ⟨S8x1x512x512, .i32⟩
  | 24 => ⟨S1x20x1x1, .i32⟩
  | 25 => ⟨S8x20x512x512, .i32⟩
  | 26 => ⟨S8x20x512x512, .i32⟩
  | 27 => ⟨S8x20x512x512, .i1⟩
  | 28 => ⟨S8x20x512x512, .f32⟩
  | 29 => ⟨S8x19x512x512, .f32⟩
  | 30 => ⟨S8x19x512x512, .f32⟩
  | 31 => ⟨S_, .f32⟩
  | 32 => ⟨S8x512x512, .f32⟩
  | 33 => ⟨S_, .f32⟩
  | 34 => ⟨S8x512x512, .f32⟩
  | 35 => ⟨S8x512x512, .f32⟩
  | 36 => ⟨S8x512x512, .f32⟩
  | 37 => ⟨S_, .i32⟩
  | 38 => ⟨S8x512x512, .i32⟩
  | 39 => ⟨S8x512x512, .i1⟩
  | 40 => ⟨S_, .f32⟩
  | 41 => ⟨S_, .f32⟩
  | 42 => ⟨S8x512x512, .f32⟩
  | 43 => ⟨S8x512x512, .f32⟩
  | 44 => ⟨S_, .f32⟩
  | 45 => ⟨S8x512x512, .f32⟩
  | 46 => ⟨S8x512x512, .f32⟩
  | 47 => ⟨S8x512x512, .f32⟩
  | 48 => ⟨S8x512x512, .i32⟩
  | 49 => ⟨S_, .i32⟩
  | 50 => ⟨S_, .i32⟩
  | 51 => ⟨S_, .i32⟩
  | 52 => ⟨S8x512x512, .i32⟩
  | 53 => ⟨S8x512x512, .i32⟩
  | 54 => ⟨S_, .i32⟩
  | 55 => ⟨S8x512x512, .i32⟩
  | 56 => ⟨S8x512x512, .i32⟩
  | 57 => ⟨S_, .f32⟩
  | 58 => ⟨S8x512x512, .f32⟩
  | 59 => ⟨S8x512x512, .i1⟩
  | 60 => ⟨S_, .f32⟩
  | 61 => ⟨S8x512x512, .f32⟩
  | 62 => ⟨S8x512x512, .i1⟩
  | 63 => ⟨S8x512x512, .i1⟩
  | 64 => ⟨S1x8x512x512, .i1⟩
  | 65 => ⟨S1x8x512x512, .i32⟩
  | 66 => ⟨S30, .i32⟩
  | 67 => ⟨S30x1x1x1, .i32⟩
  | 68 => ⟨S30x8x512x512, .i32⟩
  | 69 => ⟨S30x8x512x512, .i32⟩
  | 70 => ⟨S30x8x512x512, .i1⟩
  | 71 => ⟨S30x8x512x512, .i1⟩
  | 72 => ⟨S30x8x512x512, .i1⟩
  | 73 => ⟨S30x8x512x512, .i32⟩
  | 74 => ⟨S_, .i32⟩
  | 75 => ⟨S30, .i32⟩
  | 76 => ⟨S30, .f32⟩
  | 77 => ⟨S30, .f32⟩
  | 78 => ⟨S30, .f32⟩
  | 79 => ⟨S_, .f32⟩
  | 80 => ⟨S30, .f32⟩
  | 81 => ⟨S30, .f32⟩
  | 82 => ⟨S31, .i32⟩
  | 83 => ⟨S31, .f32⟩
  | 84 => ⟨S_, .f32⟩
  | 85 => ⟨S31, .f32⟩
  | 86 => ⟨S31, .f32⟩
  | 87 => ⟨S_, .i32⟩
  | 88 => ⟨S31, .i32⟩
  | 89 => ⟨S31, .i1⟩
  | 90 => ⟨S_, .f32⟩
  | 91 => ⟨S31, .f32⟩
  | 92 => ⟨S31, .f32⟩
  | 93 => ⟨S31, .f32⟩
  | 94 => ⟨S31x1x1x1, .f32⟩
  | 95 => ⟨S1x8x512x512, .f32⟩
  | 96 => ⟨S31x8x512x512, .f32⟩
  | 97 => ⟨S31x8x512x512, .f32⟩
  | 98 => ⟨S31x8x512x512, .i1⟩
  | 99 => ⟨S31x8x512x512, .i32⟩
  | 100 => ⟨S_, .i32⟩
  | 101 => ⟨S8x512x512, .i32⟩
  | 102 => ⟨S_, .f32⟩
  | 103 => ⟨S30, .f32⟩
  | 104 => ⟨S_, .f32⟩
  | 105 => ⟨S30, .f32⟩
  | 106 => ⟨S30, .f32⟩
  | 107 => ⟨S_, .f32⟩
  | 108 => ⟨S30, .f32⟩
  | 109 => ⟨S30, .f32⟩
  | 110 => ⟨S30, .f32⟩
  | 111 => ⟨S_, .f32⟩
  | 112 => ⟨S30, .f32⟩
  | 113 => ⟨S30, .i1⟩
  | 114 => ⟨S_, .f32⟩
  | 115 => ⟨S_, .f32⟩
  | 116 => ⟨S_, .f32⟩
  | 117 => ⟨S_, .f32⟩
  | 118 => ⟨S30, .f32⟩
  | 119 => ⟨S30, .f32⟩
  | 120 => ⟨S_, .f32⟩
  | 121 => ⟨S30, .f32⟩
  | 122 => ⟨S30, .f32⟩
  | 123 => ⟨S_, .f32⟩
  | 124 => ⟨S30, .f32⟩
  | 125 => ⟨S30, .f32⟩
  | 126 => ⟨S_, .f32⟩
  | 127 => ⟨S_, .f32⟩
  | _ => ⟨S8x19x512x512, .f32⟩

abbrev hbmTy0_1 (i : Nat) : BufTy := match i % 128 with
  | 0 => ⟨S_, .f32⟩
  | 1 => ⟨S_, .f32⟩
  | 2 => ⟨S30, .f32⟩
  | 3 => ⟨S30, .f32⟩
  | 4 => ⟨S_, .i32⟩
  | 5 => ⟨S8x512x512, .i32⟩
  | 6 => ⟨S8x512x512, .i32⟩
  | 7 => ⟨S_, .i32⟩
  | 8 => ⟨S_, .i32⟩
  | 9 => ⟨S_, .i32⟩
  | 10 => ⟨S8x512x512, .i32⟩
  | 11 => ⟨S8x512x512, .i32⟩
  | 12 => ⟨S_, .i32⟩
  | 13 => ⟨S8x512x512, .i32⟩
  | 14 => ⟨S8x512x512, .i32⟩
  | 15 => ⟨S_, .i32⟩
  | 16 => ⟨S8x512x512, .i32⟩
  | 17 => ⟨S8x512x512, .i1⟩
  | 18 => ⟨S_, .i32⟩
  | 19 => ⟨S8x512x512, .i32⟩
  | 20 => ⟨S8x512x512, .i1⟩
  | 21 => ⟨S8x512x512, .i1⟩
  | 22 => ⟨S_, .i32⟩
  | 23 => ⟨S8x512x512, .i32⟩
  | 24 => ⟨S8x512x512, .i1⟩
  | 25 => ⟨S_, .i32⟩
  | 26 => ⟨S8x512x512, .i32⟩
  | 27 => ⟨S8x512x512, .i32⟩
  | 28 => ⟨S8x512x512, .i32⟩
  | 29 => ⟨S8x512x512x1, .i32⟩
  | 30 => ⟨S8x512x512, .f32⟩
  | 31 => ⟨S_, .f32⟩
  | 32 => ⟨S_, .f32⟩
  | 33 => ⟨S8x512x512, .f32⟩
  | 34 => ⟨S8x512x512, .f32⟩
  | 35 => ⟨S_, .f32⟩
  | 36 => ⟨S8x512x512, .f32⟩
  | 37 => ⟨S_, .f32⟩
  | 38 => ⟨S8x512x512, .f32⟩
  | 39 => ⟨S8x512x512, .f32⟩
  | 40 => ⟨S8x1x512x512, .f32⟩
  | 41 => ⟨S8x19x512x512, .f32⟩
  | 42 => ⟨S8x19x512x512, .f32⟩
  | 43 => ⟨S8x19x512x512, .f32⟩
  | 44 => ⟨S_, .f32⟩
  | 45 => ⟨S8x512x512, .f32⟩
  | 46 => ⟨S8x1x512x512, .f32⟩
  | 47 => ⟨S8x1x512x512, .f32⟩
  | 48 => ⟨S8x19x512x512, .f32⟩
  | 49 => ⟨S8x19x512x512, .f32⟩
  | 50 => ⟨S_, .i32⟩
  | 51 => ⟨S8x512x512, .i32⟩
  | 52 => ⟨S8x512x512, .i1⟩
  | 53 => ⟨S_, .i32⟩
  | 54 => ⟨S_, .i32⟩
  | 55 => ⟨S8x512x512, .i32⟩
  | 56 => ⟨S8x512x512, .i32⟩
  | 57 => ⟨S8x1x512x512, .i32⟩
  | 58 => ⟨S_, .i32⟩
  | 59 => ⟨S8x1x512x512, .i32⟩
  | 60 => ⟨S8x1x512x512, .i1⟩
  | 61 => ⟨S_, .i32⟩
  | 62 => ⟨S8x1x512x512, .i32⟩
  | 63 => ⟨S8x1x512x512, .i32⟩
  | 64 => ⟨S8x1x512x512, .i32⟩
  | 65 => ⟨S8x1x512x512x1, .i32⟩
  | 66 => ⟨S1, .i32⟩
  | 67 => ⟨S_, .i32⟩
  | 68 => ⟨S8x1x512x512x1, .i32⟩
  | 69 => ⟨S8x1x512x512x1, .i1⟩
  | 70 => ⟨S1x1x1x1x1, .i32⟩
  | 71 => ⟨S8x1x512x512x1, .i32⟩
  | 72 => ⟨S8x1x512x512x1, .i1⟩
  | 73 => ⟨S8x1x512x512x1, .i1⟩
  | 74 => ⟨S_, .i1⟩
  | 75 => ⟨S8x1x512x512, .i1⟩
  | 76 => ⟨S8x1x512x512, .f32⟩
  | 77 => ⟨S_, .f32⟩
  | 78 => ⟨S8x1x512x512, .f32⟩
  | 79 => ⟨S8x1x512x512, .f32⟩
  | 80 => ⟨S8x512x512, .f32⟩
  | 81 => ⟨S8x512x512, .f32⟩
  | 82 => ⟨S_, .i32⟩
  | 83 => ⟨S8x512x512, .i32⟩
  | 84 => ⟨S8x512x512, .i1⟩
  | 85 => ⟨S_, .f32⟩
  | 86 => ⟨S_, .f32⟩
  | 87 => ⟨S8x512x512, .f32⟩
  | 88 => ⟨S8x512x512, .f32⟩
  | 89 => ⟨S8x512x512, .f32⟩
  | 90 => ⟨S_, .f32⟩
  | 91 => ⟨S8x512x512, .f32⟩
  | 92 => ⟨S8x512x512, .f32⟩
  | 93 => ⟨S_, .f32⟩
  | 94 => ⟨S_, .f32⟩
  | 95 => ⟨S_, .i32⟩
  | 96 => ⟨S8x512x512, .i32⟩
  | 97 => ⟨S8x512x512, .i1⟩
  | 98 => ⟨S8x512x512, .i32⟩
  | 99 => ⟨S_, .i32⟩
  | 100 => ⟨S_, .i32⟩
  | 101 => ⟨S_, .f32⟩
  | 102 => ⟨S_, .f32⟩
  | 103 => ⟨S_, .f32⟩
  | 104 => ⟨S_, .f32⟩
  | 105 => ⟨S_, .f32⟩
  | 106 => ⟨S1x1, .f32⟩
  | _ => ⟨S8x19x512x512, .f32⟩

abbrev hbmTy (i : Nat) : BufTy := match i / 128 with
  | 0 => hbmTy0_0 i
  | 1 => hbmTy0_1 i
  | _ => ⟨S8x19x512x512, .f32⟩

abbrev bufTy : (tb : Table) → Fin (tcTables nBuf tb) → BufTy
  | .hbm, ⟨i, _⟩ => hbmTy i
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_c_9 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v28 : Ref sig .tc := ⟨.hbm, 56, rfl⟩
abbrev main_cst_10 : Ref sig .tc := ⟨.hbm, 57, rfl⟩
abbrev main_v29 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_14 : Ref sig .tc := ⟨.hbm, 84, rfl⟩
abbrev main_v52 : Ref sig .tc := ⟨.hbm, 85, rfl⟩
abbrev main_v53 : Ref sig .tc := ⟨.hbm, 86, rfl⟩
abbrev main_c_15 : Ref sig .tc := ⟨.hbm, 87, rfl⟩
abbrev main_v54 : Ref sig .tc := ⟨.hbm, 88, rfl⟩
abbrev main_v55 : Ref sig .tc := ⟨.hbm, 89, rfl⟩
abbrev main_cst_16 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_17 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_cst_19 : Ref sig .tc := ⟨.hbm, 104, rfl⟩
abbrev main_v67 : Ref sig .tc := ⟨.hbm, 105, rfl⟩
abbrev main_v68 : Ref sig .tc := ⟨.hbm, 106, rfl⟩
abbrev main_cst_20 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_21 : Ref sig .tc := ⟨.hbm, 111, rfl⟩
abbrev main_v72 : Ref sig .tc := ⟨.hbm, 112, rfl⟩
abbrev main_v73 : Ref sig .tc := ⟨.hbm, 113, rfl⟩
abbrev main_cst_22 : Ref sig .tc := ⟨.hbm, 114, rfl⟩
abbrev main_v74 : Ref sig .tc := ⟨.hbm, 115, rfl⟩
abbrev main_cst_23 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_24 : Ref sig .tc := ⟨.hbm, 120, rfl⟩
abbrev main_v78 : Ref sig .tc := ⟨.hbm, 121, rfl⟩
abbrev main_v79 : Ref sig .tc := ⟨.hbm, 122, rfl⟩
abbrev main_cst_25 : Ref sig .tc := ⟨.hbm, 123, rfl⟩
abbrev main_v80 : Ref sig .tc := ⟨.hbm, 124, rfl⟩
abbrev main_v81 : Ref sig .tc := ⟨.hbm, 125, rfl⟩
abbrev main_cst_26 : Ref sig .tc := ⟨.hbm, 126, rfl⟩
abbrev main_v82 : Ref sig .tc := ⟨.hbm, 127, rfl⟩
abbrev main_cst_27 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_28 : Ref sig .tc := ⟨.hbm, 132, rfl⟩
abbrev main_v86 : Ref sig .tc := ⟨.hbm, 133, rfl⟩
abbrev main_v87 : Ref sig .tc := ⟨.hbm, 134, rfl⟩
abbrev main_c_29 : Ref sig .tc := ⟨.hbm, 135, rfl⟩
abbrev main_c_30 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_v88 : Ref sig .tc := ⟨.hbm, 142, rfl⟩
abbrev main_c_31 : Ref sig .tc := ⟨.hbm, 143, rfl⟩
abbrev main_v89 : Ref sig .tc := ⟨.hbm, 144, rfl⟩
abbrev main_v90 : Ref sig .tc := ⟨.hbm, 145, rfl⟩
abbrev main_c_32 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_33 : Ref sig .tc := ⟨.hbm, 150, rfl⟩
abbrev main_v94 : Ref sig .tc := ⟨.hbm, 151, rfl⟩
abbrev main_v95 : Ref sig .tc := ⟨.hbm, 152, rfl⟩
abbrev main_c_34 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_35 : Ref sig .tc := ⟨.hbm, 159, rfl⟩
abbrev main_call8_v0 : Ref sig .tc := ⟨.hbm, 160, rfl⟩
abbrev main_call8_v1 : Ref sig .tc := ⟨.hbm, 161, rfl⟩
abbrev main_v101 : Ref sig .tc := ⟨.hbm, 162, rfl⟩
abbrev main_call9_cst : Ref sig .tc := ⟨.hbm, 163, rfl⟩
abbrev main_call9_v0 : Ref sig .tc := ⟨.hbm, 164, rfl⟩
abbrev main_call9_cst_0 : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_call9_v5 : Ref sig .tc := ⟨.hbm, 170, rfl⟩
abbrev main_call9_v6 : Ref sig .tc := ⟨.hbm, 171, rfl⟩
abbrev main_call9_cst_1 : Ref sig .tc := ⟨.hbm, 172, rfl⟩
abbrev main_call9_v7 : Ref sig .tc := ⟨.hbm, 173, rfl⟩
abbrev main_call9_v8 : Ref sig .tc := ⟨.hbm, 174, rfl⟩
abbrev main_call9_v9 : Ref sig .tc := ⟨.hbm, 175, rfl⟩
abbrev main_call9_v10 : Ref sig .tc := ⟨.hbm, 176, rfl⟩
abbrev main_v102 : Ref sig .tc := ⟨.hbm, 177, rfl⟩
abbrev main_c_36 : Ref sig .tc := ⟨.hbm, 178, rfl⟩
abbrev main_v103 : Ref sig .tc := ⟨.hbm, 179, rfl⟩
abbrev main_v104 : Ref sig .tc := ⟨.hbm, 180, rfl⟩
abbrev main_c_37 : Ref sig .tc := ⟨.hbm, 181, rfl⟩
abbrev main_call10_v0 : Ref sig .tc := ⟨.hbm, 182, rfl⟩
abbrev main_call10_v1 : Ref sig .tc := ⟨.hbm, 183, rfl⟩
abbrev main_v105 : Ref sig .tc := ⟨.hbm, 184, rfl⟩
abbrev main_v106 : Ref sig .tc := ⟨.hbm, 185, rfl⟩
abbrev main_call11_c : Ref sig .tc := ⟨.hbm, 186, rfl⟩
abbrev main_call11_v0 : Ref sig .tc := ⟨.hbm, 187, rfl⟩
abbrev main_call11_v1 : Ref sig .tc := ⟨.hbm, 188, rfl⟩
abbrev main_call11_c_0 : Ref sig .tc := ⟨.hbm, 189, rfl⟩
abbrev main_call11_v2 : Ref sig .tc := ⟨.hbm, 190, rfl⟩
abbrev main_call11_v3 : Ref sig .tc := ⟨.hbm, 191, rfl⟩
abbrev main_call11_v4 : Ref sig .tc := ⟨.hbm, 192, rfl⟩
abbrev main_call11_v5 : Ref sig .tc := ⟨.hbm, 193, rfl⟩
abbrev main_call11_c_1 : Ref sig .tc := ⟨.hbm, 194, rfl⟩
abbrev main_call11_c_2 : Ref sig .tc := ⟨.hbm, 195, rfl⟩
abbrev main_call11_v6 : Ref sig .tc := ⟨.hbm, 196, rfl⟩
abbrev main_call11_v7 : Ref sig .tc := ⟨.hbm, 197, rfl⟩
abbrev main_call11_v8 : Ref sig .tc := ⟨.hbm, 198, rfl⟩
abbrev main_call11_v9 : Ref sig .tc := ⟨.hbm, 199, rfl⟩
abbrev main_call11_v10 : Ref sig .tc := ⟨.hbm, 200, rfl⟩
abbrev main_call11_v11 : Ref sig .tc := ⟨.hbm, 201, rfl⟩
abbrev main_call11_c_3 : Ref sig .tc := ⟨.hbm, 202, rfl⟩
abbrev main_call11_v12 : Ref sig .tc := ⟨.hbm, 203, rfl⟩
abbrev main_call11_v13 : Ref sig .tc := ⟨.hbm, 204, rfl⟩
abbrev main_call11_cst : Ref sig .tc := ⟨.hbm, 205, rfl⟩
abbrev main_call11_v14 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_c_38 : Ref sig .tc := ⟨.hbm, 210, rfl⟩
abbrev main_v110 : Ref sig .tc := ⟨.hbm, 211, rfl⟩
abbrev main_v111 : Ref sig .tc := ⟨.hbm, 212, rfl⟩
abbrev main_cst_39 : Ref sig .tc := ⟨.hbm, 213, rfl⟩
abbrev main_call12_v0 : Ref sig .tc := ⟨.hbm, 214, rfl⟩
abbrev main_call12_v1 : Ref sig .tc := ⟨.hbm, 215, rfl⟩
abbrev main_v112 : Ref sig .tc := ⟨.hbm, 216, rfl⟩
abbrev main_v113 : Ref sig .tc := ⟨.hbm, 217, rfl⟩
abbrev main_cst_40 : Ref sig .tc := ⟨.hbm, 218, rfl⟩
abbrev main_v114 : Ref sig .tc := ⟨.hbm, 219, rfl⟩
abbrev main_v115 : Ref sig .tc := ⟨.hbm, 220, rfl⟩
abbrev main_cst_41 : Ref sig .tc := ⟨.hbm, 221, rfl⟩
abbrev main_v116 : Ref sig .tc := ⟨.hbm, 222, rfl⟩
abbrev main_c_42 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_c_43 : Ref sig .tc := ⟨.hbm, 227, rfl⟩
abbrev main_v120 : Ref sig .tc := ⟨.hbm, 228, rfl⟩
abbrev main_v121 : Ref sig .tc := ⟨.hbm, 229, rfl⟩
abbrev main_cst_44 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩

abbrev nD : Nat := 1
abbrev τ : Topo := Topo.v7x

variable {F : FTy → Type} [FloatOps F]
-- ==== Proof.Consts.lean ====
/- The values of the float constants the two programs spell. -/
module

public import Idealize.ShloMosaic.PureOps.Ideal

@[expose] public section

noncomputable section

namespace Cert.Consts

open Idealize.ShloMosaic

/-- The single-precision number nearest to one hundredth. -/
def hundredth : ℝ := 5368709 / 536870912

/-- The single-precision number nearest to `1e-7`. -/
def tiny : ℝ := 14073749 / 140737488355328

/-- The single-precision number nearest to one thousandth. -/
def thousandth : ℝ := 8589935 / 8589934592

/-- It is positive. -/
theorem hundredth_pos : 0 < hundredth := by unfold hundredth; norm_num

/-- It is positive. -/
theorem tiny_pos : 0 < tiny := by unfold tiny; norm_num

/-- It is positive. -/
theorem thousandth_pos : 0 < thousandth := by unfold thousandth; norm_num

/-- The number of pixels plus `tiny`. -/
theorem total_eq : (295147905179366899605 / 140737488355328 : ℝ) = 2097152 + tiny := by unfold tiny; norm_num

/-- The single-precision zero. -/
theorem zero : Ideal.ofBits .f32 0x00000000#32 = ((0 : ℝ) : EReal) := by
  simp [Ideal.ofBits, Ideal.ieee]

/-- The single-precision one. -/
theorem one : Ideal.ofBits .f32 0x3F800000#32 = ((1 : ℝ) : EReal) := by
  simp [Ideal.ofBits, Ideal.ieee, -EReal.coe_mul]; norm_num

/-- Thirty. -/
theorem thirty : Ideal.ofBits .f32 0x41F00000#32 = ((30 : ℝ) : EReal) := by
  simp [Ideal.ofBits, Ideal.ieee, -EReal.coe_mul]; norm_num

/-- One half. -/
theorem half : Ideal.ofBits .f32 0x3F000000#32 = ((1 / 2 : ℝ) : EReal) := by
  simp [Ideal.ofBits, Ideal.ieee, -EReal.coe_mul]; norm_num

/-- Minus one. -/
theorem neg_one : Ideal.ofBits .f32 0xBF800000#32 = ((-1 : ℝ) : EReal) := by
  simp [Ideal.ofBits, Ideal.ieee, -EReal.coe_mul]; norm_num

/-- The update's factor, one hundredth rounded. -/
theorem hundredth_eq : Ideal.ofBits .f32 0x3C23D70A#32 = (hundredth : EReal) := by
  unfold hundredth
  simp [Ideal.ofBits, Ideal.ieee, -EReal.coe_mul]; norm_num

/-- The number of pixels. -/
theorem pixels : Ideal.ofBits .f32 0x4A000000#32 = ((2097152 : ℝ) : EReal) := by
  simp [Ideal.ofBits, Ideal.ieee, -EReal.coe_mul]; norm_num

/-- `1e-7` rounded. -/
theorem tiny_eq : Ideal.ofBits .f32 0x33D6BF95#32 = (tiny : EReal) := by
  unfold tiny
  simp [Ideal.ofBits, Ideal.ieee, -EReal.coe_mul]; norm_num

/-- One thousandth rounded. -/
theorem thousandth_eq : Ideal.ofBits .f32 0x3A83126F#32 = (thousandth : EReal) := by
  unfold thousandth
  simp [Ideal.ofBits, Ideal.ieee, -EReal.coe_mul]; norm_num

/-- The pattern of minus infinity. -/
theorem bottom : Ideal.ofBits .f32 0xFF800000#32 = (⊥ : EReal) := by
  simp [Ideal.ofBits, Ideal.ieee]

/-- The bfloat16 zero. -/
theorem zero16 : Ideal.ofBits .bf16 0x0000#16 = ((0 : ℝ) : EReal) := by
  simp [Ideal.ofBits, Ideal.ieee]

/-- The bfloat16 one. -/
theorem one16 : Ideal.ofBits .bf16 0x3F80#16 = ((1 : ℝ) : EReal) := by
  simp [Ideal.ofBits, Ideal.ieee, -EReal.coe_mul]; norm_num

/-- The bfloat16 one half. -/
theorem half16 : Ideal.ofBits .bf16 0x3F00#16 = ((1 / 2 : ℝ) : EReal) := by
  simp [Ideal.ofBits, Ideal.ieee, -EReal.coe_mul]; norm_num

end Cert.Consts

end
-- ==== Proof.Pixel.lean ====
/- One pixel: its nineteen logits, its label and the probability the label is given. -/
module

public import proofs.«01_k».proof.Proof.Consts

@[expose] public section

noncomputable section

namespace Cert.Pixel

open Idealize.ShloMosaic Cert.Consts

/-- The probability of the class `t` under the logits `x`: its exponential over the sum of all. -/
def prob (x : Fin 19 → EReal) (t : BitVec 32) : EReal :=
  Ideal.div (∑ ch : Fin 19, if BitVec.ofNat 32 ch.val = t then Ideal.exp (x ch) else 0) (∑ ch : Fin 19, Ideal.exp (x ch))

/-- A probability strictly between 0 and 1 that is no multiple of one thirtieth. -/
def Inner (p : ℝ) : Prop := 0 < p ∧ p < 1 ∧ ∀ n : ℕ, 30 * (1 - p) ≠ n

/-- The bin of a probability: the whole part of thirty times its distance from 1. -/
def bin (p : ℝ) : ℕ := ⌊30 * (1 - p)⌋₊

/-- The exponential is nowhere negative. -/
theorem exp_nonneg (x : EReal) : 0 ≤ Ideal.exp x := by
  induction x with
  | bot => exact le_refl _
  | top => exact le_top
  | coe r => exact EReal.coe_nonneg.mpr (Real.exp_pos r).le

/-- Division of reals. -/
theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

/-- A sum of reals, taken among the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- Rounding down leaves the infinities. -/
theorem floor_bot : Ideal.liftRound Int.floor ((⊥ : EReal) * ((30 : ℝ) : EReal)) = (⊥ : EReal) * ((30 : ℝ) : EReal) := by
  rw [EReal.bot_mul_coe_of_pos (by norm_num)]; rfl

/-- Zero is whole. -/
theorem floor_zero : Ideal.liftRound Int.floor ((0 : EReal) * ((30 : ℝ) : EReal)) = (0 : EReal) * ((30 : ℝ) : EReal) := by
  rw [zero_mul]
  show (((⌊(0 : ℝ)⌋ : ℤ) : ℝ) : EReal) = 0
  simp

/-- A zero numerator gives a probability that rounding down leaves. -/
theorem zero_num (D : EReal) : Ideal.div 0 D = 0 ∨ Ideal.div 0 D = ⊥ := by
  unfold Ideal.div
  by_cases h : D = 0
  · right; rw [if_pos h, if_neg (lt_irrefl _)]
  · left; rw [if_neg h, zero_mul]

/-- What the precondition says of a pixel: the label is a class, every exponential is a real, the label's is positive,
    and the label's probability is a real strictly between 0 and 1 and no multiple of one thirtieth. -/
structure Good (x : Fin 19 → EReal) (t : BitVec 32) (c : Fin 19) (a : Fin 19 → ℝ) : Prop where
  label : t = BitVec.ofNat 32 c.val
  exps : ∀ ch, Ideal.exp (x ch) = (a ch : EReal)
  nonneg : ∀ ch, 0 ≤ a ch
  pos : 0 < a c
  value : prob x t = ((a c / ∑ ch, a ch : ℝ) : EReal)
  inner : Inner (a c / ∑ ch, a ch)

/-- The one class whose number is the label contributes its exponential. -/
theorem num_class {M : Type} [AddCommMonoid M] (c : Fin 19) (e : Fin 19 → M) :
    (∑ ch : Fin 19, if BitVec.ofNat 32 ch.val = BitVec.ofNat 32 c.val then e ch else 0) = e c := by
  rw [Finset.sum_eq_single c]
  · rw [if_pos rfl]
  · intro b _ hb
    rw [if_neg]
    intro h
    have h' := congrArg BitVec.toNat h
    simp only [BitVec.toNat_ofNat] at h'
    exact hb (Fin.ext (by have := b.isLt; have := c.isLt; omega))
  · intro h; exact absurd (Finset.mem_univ c) h

/-- A pixel whose probability, times thirty, is not left by rounding down is a good one. -/
theorem decode (x : Fin 19 → EReal) (t : BitVec 32)
    (h : Ideal.liftRound Int.floor (prob x t * ((30 : ℝ) : EReal)) ≠ prob x t * ((30 : ℝ) : EReal)) :
    ∃ (c : Fin 19) (a : Fin 19 → ℝ), Good x t c a := by
  have key : ∀ D : EReal, prob x t ≠ Ideal.div 0 D := by
    intro D e
    rcases zero_num D with h0 | h0
    · rw [e, h0] at h; exact h floor_zero
    · rw [e, h0] at h; exact h floor_bot
  have hc : ∃ c : Fin 19, t = BitVec.ofNat 32 c.val := by
    by_contra hn
    refine key (∑ ch : Fin 19, Ideal.exp (x ch)) ?_
    unfold prob
    rw [Finset.sum_eq_zero]
    intro ch _
    exact if_neg fun e => hn ⟨ch, e.symm⟩
  obtain ⟨c, hc⟩ := hc
  have hp : prob x t = Ideal.div (Ideal.exp (x c)) (∑ ch : Fin 19, Ideal.exp (x ch)) := by
    unfold prob
    rw [hc, num_class c (fun ch => Ideal.exp (x ch))]
  have htop : ∀ ch, Ideal.exp (x ch) ≠ ⊤ := by
    intro ch e
    have hs : (∑ ch : Fin 19, Ideal.exp (x ch)) = ⊤ := by
      rw [← Finset.add_sum_erase _ _ (Finset.mem_univ ch), e]
      exact EReal.top_add_of_ne_bot (ne_of_gt (lt_of_lt_of_le EReal.bot_lt_zero (Finset.sum_nonneg fun i _ => exp_nonneg _)))
    rw [hs] at hp
    have : prob x t = 0 := by
      rw [hp]; unfold Ideal.div
      rw [if_neg (by simp), EReal.inv_top, mul_zero]
    rw [this] at h; exact h floor_zero
  have hreal : ∀ ch, ∃ r : ℝ, Ideal.exp (x ch) = (r : EReal) ∧ 0 ≤ r := by
    intro ch
    have hb : Ideal.exp (x ch) ≠ ⊥ := ne_of_gt (lt_of_lt_of_le EReal.bot_lt_zero (exp_nonneg _))
    refine ⟨(Ideal.exp (x ch)).toReal, (EReal.coe_toReal (htop ch) hb).symm, EReal.toReal_nonneg (exp_nonneg _)⟩
  choose a ha hn using hreal
  have hpos : 0 < a c := by
    rcases (hn c).lt_or_eq with h' | h'
    · exact h'
    · exfalso
      refine key (∑ ch : Fin 19, Ideal.exp (x ch)) ?_
      rw [hp]
      congr 1
      rw [ha c, ← h']; rfl
  have hle : a c ≤ ∑ ch, a ch := Finset.single_le_sum (fun i _ => hn i) (Finset.mem_univ c)
  have hS : 0 < ∑ ch, a ch := lt_of_lt_of_le hpos hle
  have hv : prob x t = ((a c / ∑ ch, a ch : ℝ) : EReal) := by
    rw [hp, ha c, Finset.sum_congr rfl (fun ch _ => ha ch), sum_coe, div_coe _ _ hS.ne']
  have hint : ∀ n : ℤ, (30 : ℝ) * (a c / ∑ ch, a ch) ≠ n := by
    intro n e
    apply h
    rw [hv, ← EReal.coe_mul]
    show (((⌊_⌋ : ℤ) : ℝ) : EReal) = _
    rw [mul_comm, e, Int.floor_intCast]
  refine ⟨c, a, hc, ha, hn, hpos, hv, div_pos hpos hS, ?_, ?_⟩
  · rcases (div_le_one hS).mpr hle |>.lt_or_eq with h' | h'
    · exact h'
    · exact absurd (by rw [h']; norm_num) (hint 30)
  · intro n e
    apply hint (30 - n)
    push_cast
    linarith

variable {x : Fin 19 → EReal} {t : BitVec 32} {c : Fin 19} {a : Fin 19 → ℝ}

/-- The sum of a good pixel's exponentials is positive. -/
theorem Good.sum_pos (g : Good x t c a) : 0 < ∑ ch, a ch :=
  lt_of_lt_of_le g.pos (Finset.single_le_sum (fun i _ => g.nonneg i) (Finset.mem_univ c))

/-- The cross entropy as the kernel computes it. -/
theorem Good.entropy (g : Good x t c a) : (0 : EReal) - Ideal.log (prob x t) = ((-Real.log (a c / ∑ ch, a ch) : ℝ) : EReal) := by
  rw [g.value]
  show (0 : EReal) - (if _ then _ else _) = _
  rw [if_neg (not_le.mpr g.inner.1), ← EReal.coe_zero, ← EReal.coe_sub, zero_sub]

/-- A logit whose exponential is a real is not plus infinity. -/
theorem Good.ne_top (g : Good x t c a) (ch : Fin 19) : x ch ≠ ⊤ := by
  intro e
  have := g.exps ch
  rw [e] at this
  exact EReal.coe_ne_top _ this.symm

/-- The label's logit is a real. -/
theorem Good.logit (g : Good x t c a) : x c = ((Real.log (a c) : ℝ) : EReal) := by
  have h := g.exps c
  have hp := g.pos
  revert h
  induction x c with
  | bot => intro h; exact absurd (EReal.coe_eq_zero.mp h.symm) hp.ne'
  | top => intro h; exact absurd h.symm (EReal.coe_ne_top _)
  | coe r =>
    intro h
    have h' : Real.exp r = a c := EReal.coe_eq_coe_iff.mp h
    rw [← h', Real.log_exp]

/-- The greatest logit of a good pixel, minus infinity put in, is a real. -/
theorem Good.max_real (g : Good x t c a) : ∃ M : ℝ, Finset.univ.fold max ⊥ x = (M : EReal) := by
  have h1 : x c ≤ Finset.univ.fold max ⊥ x := (Finset.le_fold_max _).mpr (Or.inr ⟨c, Finset.mem_univ c, le_refl _⟩)
  have h2 : Finset.univ.fold max ⊥ x < ⊤ :=
    (Finset.fold_max_lt _).mpr ⟨bot_lt_top, fun ch _ => lt_top_iff_ne_top.mpr (g.ne_top ch)⟩
  have h3 : Finset.univ.fold max ⊥ x ≠ ⊥ := by
    intro e
    rw [e, g.logit] at h1
    exact absurd h1 (not_le.mpr (EReal.bot_lt_coe _))
  exact ⟨_, (EReal.coe_toReal h2.ne h3).symm⟩

/-- The exponential of a shifted logit. -/
theorem Good.shift (g : Good x t c a) (M : ℝ) (ch : Fin 19) : Ideal.exp (x ch - (M : EReal)) = ((a ch * Real.exp (-M) : ℝ) : EReal) := by
  have h := g.exps ch
  revert h
  induction x ch with
  | bot =>
    intro h
    have h' : a ch = 0 := EReal.coe_eq_zero.mp h.symm
    rw [h', zero_mul, EReal.bot_sub]; rfl
  | top => intro h; exact absurd h.symm (EReal.coe_ne_top _)
  | coe r =>
    intro h
    have h' : Real.exp r = a ch := EReal.coe_eq_coe_iff.mp h
    rw [← EReal.coe_sub, ← h', ← Real.exp_add]
    rfl

/-- The sum of the shifted exponentials. -/
theorem Good.shift_sum (g : Good x t c a) (M : ℝ) :
    (∑ ch, Ideal.exp (x ch - (M : EReal))) = (((∑ ch, a ch) * Real.exp (-M) : ℝ) : EReal) := by
  rw [Finset.sum_congr rfl (fun ch _ => g.shift M ch), sum_coe, Finset.sum_mul]

/-- The softmax with the logits shifted by `M`. -/
theorem Good.softmax (g : Good x t c a) (M : ℝ) (ch : Fin 19) :
    Ideal.div (Ideal.exp (x ch - (M : EReal))) (∑ ch, Ideal.exp (x ch - (M : EReal))) = ((a ch / ∑ ch, a ch : ℝ) : EReal) := by
  rw [g.shift_sum, g.shift, div_coe _ _ (mul_pos g.sum_pos (Real.exp_pos _)).ne', mul_div_mul_right _ _ (Real.exp_pos _).ne']

/-- The logarithm of the softmax with the logits shifted by `M`, at the label. -/
theorem Good.log_softmax (g : Good x t c a) (M : ℝ) :
    x c - (M : EReal) - Ideal.log (∑ ch, Ideal.exp (x ch - (M : EReal))) = ((Real.log (a c / ∑ ch, a ch) : ℝ) : EReal) := by
  rw [g.shift_sum, g.logit]
  show (_ : EReal) - (if _ then _ else _) = _
  rw [if_neg (not_le.mpr (mul_pos g.sum_pos (Real.exp_pos _))), ← EReal.coe_sub, ← EReal.coe_sub,
    Real.log_mul g.sum_pos.ne' (Real.exp_pos _).ne', Real.log_exp, Real.log_div g.pos.ne' g.sum_pos.ne']
  congr 1; ring

variable {p : ℝ}

/-- There are thirty bins. -/
theorem Inner.bin_lt (h : Inner p) : bin p < 30 := by
  unfold bin
  rw [Nat.floor_lt (by have := h.2.1; nlinarith)]
  have := h.1
  push_cast; linarith

/-- A count of thirtieths is below the distance from 1 exactly when it is at most the bin. -/
theorem Inner.lt_iff (h : Inner p) (k : ℕ) : ((k : ℝ) / 30 < 1 - p) ↔ k ≤ bin p := by
  unfold bin
  rw [Nat.le_floor_iff (by have := h.2.1; nlinarith), div_lt_iff₀ (by norm_num)]
  constructor
  · intro h'; linarith
  · intro h'
    rcases h'.lt_or_eq with h'' | h''
    · linarith
    · exact absurd h''.symm (h.2.2 k)

/-- The same, as the kernel tests it: against the probability. -/
theorem Inner.below_iff (h : Inner p) (k : ℕ) (hk : k ≤ 30) : (p < ((30 - k : ℕ) : ℝ) / 30) ↔ k ≤ bin p := by
  rw [← h.lt_iff k, Nat.cast_sub hk]
  push_cast
  constructor <;> intro h' <;> linarith

/-- Rounding thirty distances down gives the bin. -/
theorem Inner.floor_eq (h : Inner p) : ⌊(1 - p) * 30⌋ = (bin p : ℤ) := by
  unfold bin
  rw [mul_comm, Int.natCast_floor_eq_floor (by have := h.2.1; nlinarith)]

end Cert.Pixel

end
-- ==== Proof.Model.lean ====
/- The loss as a real number: from the number of pixels in each bin and the entropies' sum in each bin, and as a mean over
   the pixels of entropy times the weight of the pixel's bin. -/
module

public import proofs.«01_k».proof.Proof.Pixel

@[expose] public section

noncomputable section

namespace Cert.Model

open Cert.Consts

/-- The greatest of `f 0, …, f n`. -/
def greatest (f : ℕ → ℝ) : ℕ → ℝ
  | 0 => f 0
  | n + 1 => max (greatest f n) (f (n + 1))

/-- The accumulated histogram: the bin and its mirror image averaged, times one hundredth. -/
def accum (h : ℕ → ℝ) (k : ℕ) : ℝ := (h k + h (29 - k)) * (1 / 2) * hundredth

/-- The histogram's total. -/
def total (h : ℕ → ℝ) : ℝ := (∑ k ∈ Finset.range 30, accum h k) + tiny

/-- A bin's weight, before it is divided by the greatest. -/
def weight (h : ℕ → ℝ) (k : ℕ) : ℝ := if accum h k = 0 then 0 else 1 - accum h k / total h

/-- The greatest weight. -/
def top (h : ℕ → ℝ) : ℝ := greatest (weight h) 29 + tiny

/-- The loss from the bins' counts `h` and the bins' entropies `e`. -/
def loss (h e : ℕ → ℝ) : ℝ := (∑ k ∈ Finset.range 30, weight h k * e k) / (top h * (2097152 + tiny))

variable {h : ℕ → ℝ}

/-- Smoothed counts are not negative. -/
theorem accum_nonneg (hh : ∀ k, 0 ≤ h k) (k : ℕ) : 0 ≤ accum h k :=
  mul_nonneg (mul_nonneg (add_nonneg (hh _) (hh _)) (by norm_num)) hundredth_pos.le

/-- The normalizer is positive. -/
theorem total_pos (hh : ∀ k, 0 ≤ h k) : 0 < total h :=
  add_pos_of_nonneg_of_pos (Finset.sum_nonneg fun k _ => accum_nonneg hh k) tiny_pos

/-- Weights are not negative. -/
theorem weight_nonneg (hh : ∀ k, 0 ≤ h k) (k : ℕ) (hk : k < 30) : 0 ≤ weight h k := by
  unfold weight
  split
  · exact le_refl _
  · rw [sub_nonneg, div_le_one (total_pos hh)]
    have := Finset.single_le_sum (f := accum h) (fun i _ => accum_nonneg hh i) (Finset.mem_range.mpr hk)
    exact this.trans (le_add_of_nonneg_right tiny_pos.le)

/-- The first value is at most the greatest. -/
theorem le_greatest (f : ℕ → ℝ) (n : ℕ) : f 0 ≤ greatest f n := by
  induction n with
  | zero => exact le_refl _
  | succ n ih => exact ih.trans (le_max_left _ _)

/-- The divisor of the weights is positive. -/
theorem top_pos (hh : ∀ k, 0 ≤ h k) : 0 < top h :=
  add_pos_of_nonneg_of_pos ((weight_nonneg hh 0 (by norm_num)).trans (le_greatest _ _)) tiny_pos

/-- The greatest of reals, folded among the extended reals from minus infinity. -/
theorem fold_greatest (f : ℕ → ℝ) (n : ℕ) : (Finset.univ : Finset (Fin (n + 1))).fold max ⊥ (fun k => (f k.val : EReal)) = (greatest f n : EReal) := by
  have e : ∀ n, (Finset.range (n + 1)).fold max ⊥ (fun k => (f k : EReal)) = (greatest f n : EReal) := by
    intro n
    induction n with
    | zero => simp [greatest]
    | succ n ih =>
      rw [Finset.range_add_one, Finset.fold_insert Finset.notMem_range_self, ih, max_comm]
      exact (EReal.coe_strictMono.monotone.map_max (a := greatest f n) (b := f (n + 1))).symm
  rw [← e n]
  apply le_antisymm
  · rw [Finset.fold_max_le]
    exact ⟨bot_le, fun k _ => (Finset.le_fold_max _).mpr (Or.inr ⟨k.val, Finset.mem_range.mpr k.isLt, le_refl _⟩)⟩
  · rw [Finset.fold_max_le]
    exact ⟨bot_le, fun k hk => (Finset.le_fold_max _).mpr (Or.inr ⟨⟨k, Finset.mem_range.mp hk⟩, Finset.mem_univ _, le_refl _⟩)⟩

variable {ι : Type} [Fintype ι]

/-- How many pixels lie in a bin. -/
def count (K : ι → ℕ) (k : ℕ) : ℝ := ∑ i, if K i = k then (1 : ℝ) else 0

/-- The sum over a bin. -/
def binSum (K : ι → ℕ) (L : ι → ℝ) (k : ℕ) : ℝ := ∑ i, if K i = k then L i else 0

/-- The sum over a bin and those after it. -/
def tailSum (K : ι → ℕ) (L : ι → ℝ) (k : ℕ) : ℝ := ∑ i, if k ≤ K i then L i else 0

/-- Counts are not negative. -/
theorem count_nonneg (K : ι → ℕ) (k : ℕ) : 0 ≤ count K k :=
  Finset.sum_nonneg fun i _ => by split <;> norm_num

/-- A bin's sum is the difference of two tails. -/
theorem tail_sub (K : ι → ℕ) (L : ι → ℝ) (k : ℕ) : tailSum K L k - tailSum K L (k + 1) = binSum K L k := by
  unfold tailSum binSum
  rw [← Finset.sum_sub_distrib]
  refine Finset.sum_congr rfl fun i _ => ?_
  by_cases h1 : K i = k
  · rw [if_pos h1.ge, if_neg (by omega), if_pos h1, sub_zero]
  · by_cases h2 : k ≤ K i
    · rw [if_pos h2, if_pos (by omega), if_neg h1, sub_self]
    · rw [if_neg h2, if_neg (by omega), if_neg h1, sub_self]

/-- Past the last bin nothing is left. -/
theorem tail_end (K : ι → ℕ) (hK : ∀ i, K i < 30) (L : ι → ℝ) : tailSum K L 30 = 0 :=
  Finset.sum_eq_zero fun i _ => if_neg (not_le.mpr (hK i))

/-- The mean over the pixels of entropy times weight is the loss from the bins. -/
theorem mean_eq (K : ι → ℕ) (hK : ∀ i, K i < 30) (L : ι → ℝ) :
    (∑ i, L i * (weight h (K i) / top h)) / (2097152 + tiny) = loss h (binSum K L) := by
  unfold loss binSum
  have e : (∑ i, L i * (weight h (K i) / top h)) = (∑ k ∈ Finset.range 30, weight h k * ∑ i, if K i = k then L i else 0) / top h := by
    have e' : (∑ k ∈ Finset.range 30, weight h k * ∑ i, if K i = k then L i else 0)
        = ∑ i, ∑ k ∈ Finset.range 30, weight h k * if K i = k then L i else 0 := by
      rw [Finset.sum_comm]
      exact Finset.sum_congr rfl fun k _ => Finset.mul_sum _ _ _
    rw [e', Finset.sum_div]
    refine Finset.sum_congr rfl fun i _ => ?_
    rw [Finset.sum_eq_single (K i)]
    · rw [if_pos rfl]; ring
    · intro b _ hb; rw [if_neg hb.symm, mul_zero]
    · intro hb; exact absurd (Finset.mem_range.mpr (hK i)) hb
  rw [e, div_div]

end Cert.Model

end
-- ==== Proof.KStep.lean ====
/- What one grid point does to the scratch, as arrays: it adds one block of 60 rows, row `2k` the number of pixels of
   each column below threshold `k`, row `2k + 1` the sum of their cross entropies. The first point adds it to zero. -/
module

public import proofs.«01_k».proof.Proof.Model
public import proofs.«01_k».proof.Proof.Gen.KernelIdeal.Value
public import Idealize.ShloMosaic.Lib.Pipeline.Value
public import Idealize.ShloMosaic.Lib.Pointwise
public import Idealize.ShloMosaic.Lib.Tactic

@[expose] public section

noncomputable section

namespace Cert.KStep

open Idealize.ShloMosaic Idealize.ShloMosaic.TcCoe Idealize.SL.Sem
open Cert.KernelIdeal Cert.KernelIdeal.Gen

/-- Two zero offsets. -/
theorem zeros2 : (![0, 0] : Fin 2 → Nat) = fun _ => 0 := by decide

/-- Three zero offsets. -/
theorem zeros3 : (![0, 0, 0] : Fin 3 → Nat) = fun _ => 0 := by decide

/-- Four zero offsets. -/
theorem zeros4 : (![0, 0, 0, 0] : Fin 4 → Nat) = fun _ => 0 := by decide

/-- The thirty thresholds the kernel compares a probability with, as it spells them. -/
def threshold : Fin 30 → Ideal .bf16 :=
  ![Scalar.ofBits .bf16 0x3F80#16, Named.named κ "q29" 0x3F77#16, Named.named κ "q28" 0x3F6F#16,
     Named.named κ "q27" 0x3F66#16, Named.named κ "q26" 0x3F5E#16, Named.named κ "q25" 0x3F55#16,
     Named.named κ "q24" 0x3F4D#16, Named.named κ "q23" 0x3F44#16, Named.named κ "q22" 0x3F3C#16,
     Named.named κ "q21" 0x3F33#16, Named.named κ "q20" 0x3F2B#16, Named.named κ "q19" 0x3F22#16,
     Named.named κ "q18" 0x3F1A#16, Named.named κ "q17" 0x3F11#16, Named.named κ "q16" 0x3F09#16,
     Scalar.ofBits .bf16 0x3F00#16, Named.named κ "q14" 0x3EEF#16, Named.named κ "q13" 0x3EDE#16,
     Named.named κ "q12" 0x3ECD#16, Named.named κ "q11" 0x3EBC#16, Named.named κ "q10" 0x3EAB#16,
     Named.named κ "q9" 0x3E9A#16, Named.named κ "q8" 0x3E89#16, Named.named κ "q7" 0x3E6F#16,
     Named.named κ "q6" 0x3E4D#16, Named.named κ "q5" 0x3E2B#16, Named.named κ "q4" 0x3E09#16,
     Named.named κ "q3" 0x3DCD#16, Named.named κ "q2" 0x3D89#16, Named.named κ "q1" 0x3D09#16]

/-- The column sums of `v` over the pixels whose probability is below `q`, as a product with a row of ones. -/
def sumBelow (py v : FVec Ideal S256x512 .bf16) (q : Ideal .bf16) : FVec Ideal S1x512 .f32 :=
  matmul dot_S1x256_S256x512_S1x512_1_0_0_1_n_n none (k0_pay237 (F := Ideal))
    (select (cmpf .olt py (broadcast S256x512 q)) v (k0_pay235 (F := Ideal))) (constant S1x512 .f32 0x00000000#32)

/-- Row `r` of the block a point adds: counts in the even rows, cross entropies in the odd ones. -/
def row (py ce : FVec Ideal S256x512 .bf16) (r : Fin 60) : FVec Ideal S1x512 .f32 :=
  sumBelow py (if r.val % 2 = 0 then k0_pay236 (F := Ideal) else ce) (threshold ⟨r.val / 2, by omega⟩)

/-- The block a point adds to the scratch, from its input blocks. -/
def block (x0 : Vec Ideal S1x19x256x512 .f32) (x1 : Vec Ideal S1x256x512 .i32) (x2 : Vec Ideal S256x4864 .bf16) : Vec Ideal S60x512 .f32 :=
  fun j => row (k0_pay233 x0 x1 x2) (k0_pay234 x0 x1 x2) (j 0) (ix2 0 (j 1))

/-- Sixty rows laid one under another, read at an index. -/
theorem concat_rows (f : Fin 60 → FVec Ideal S1x512 .f32) (L : List ((s : Shape) × (s.Idx → EReal)))
    (hL : L = List.ofFn fun n : Fin 60 => (⟨S1x512, f n⟩ : (s : Shape) × (s.Idx → EReal)))
    (h : Shape.Concatenates (L.map (·.1)) S60x512 0) : concatenate S60x512 0 L h = fun j => f (j 0) (ix2 0 (j 1)) := by
  subst hL
  funext j
  refine concatenate_ofFn_unit_apply (t := S60x512) (s₁ := S1x512) 0 f h rfl rfl j (j 0) rfl _ ?_
  intro b hb
  match b with
  | ⟨0, _⟩ => exact absurd rfl hb
  | ⟨1, _⟩ => rfl

/-- The pieces a middle point leaves in the scratch: what was there plus the block. -/
theorem sout_B (c : Dev nD) (i : grid0.Coords) (arg1 : Memref sig .tc .vmem S1x19x256x512 .f32) (harg1 : arg1.IsWhole) (arg2 : Memref sig .tc .vmem S1x256x512 .i32) (harg2 : arg2.IsWhole)
    (arg3 : Memref sig .tc .vmem S256x4864 .bf16) (harg3 : arg3.IsWhole) (arg4 : Memref sig .tc .vmem S1x1 .f32) (harg4 : arg4.IsWhole) (arg5 : Memref sig .tc .vmem S60x512 .f32) (harg5 : arg5.IsWhole) (hc0 : ¬cond0_0 i) (hc1 : ¬cond0_1 i)
    (x0 : Vec Ideal S1x19x256x512 .f32) (x1 : Vec Ideal S1x256x512 .i32) (x2 : Vec Ideal S256x4864 .bf16) (xs0 : Vec Ideal S60x512 .f32) :
    sout0_B_0 c i arg1 harg1 arg2 harg2 arg3 harg3 arg4 harg4 arg5 harg5 hc0 hc1 x0 x1 x2 xs0 = addf (F := Ideal) (s := S60x512) (φ := .f32) xs0 (block x0 x1 x2) := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero zeros2]
  unfold k0_pay7
  simp only [View.readAt_eq_ld]
  have l0 : View.ld (View.read (Elt Ideal) arg1.view (harg1.unread x0)) (Rect.unit ![0, 0, 0, 0] ![1, 19, 256, 512] inb_S1x19x256x512_S1x19x256x512_0_0_0_0) = x0 := by
    rw [harg1.read_unread, View.ld_unit_zero (S := S1x19x256x512) zeros4]
  have l1 : View.ld (View.read (Elt Ideal) arg2.view (harg2.unread x1)) (Rect.unit ![0, 0, 0] ![1, 256, 512] inb_S1x256x512_S1x256x512_0_0_0) = x1 := by
    rw [harg2.read_unread, View.ld_unit_zero (S := S1x256x512) zeros3]
  have l2 : View.ld (View.read (Elt Ideal) arg3.view (harg3.unread x2)) (Rect.unit ![0, 0] ![256, 4864] inb_S256x4864_S256x4864_0_0) = x2 := by
    rw [harg3.read_unread, View.ld_unit_zero (S := S256x4864) zeros2]
  have l5 : View.ld (View.read (Elt Ideal) arg5.view (harg5.unread xs0)) (Rect.unit ![0, 0] ![60, 512] inb_S60x512_S60x512_0_0) = xs0 := by
    rw [harg5.read_unread, View.ld_unit_zero (S := S60x512) zeros2]
  rw [l0, l1, l2, l5, shapeCast_self]
  exact congrArg (addf (F := Ideal) (s := S60x512) (φ := .f32) xs0) (concat_rows (row (k0_pay233 x0 x1 x2) (k0_pay234 x0 x1 x2)) _ rfl _)

/-- The pieces the first point leaves in the scratch: zero plus the block. -/
theorem sout_A (c : Dev nD) (i : grid0.Coords) (arg1 : Memref sig .tc .vmem S1x19x256x512 .f32) (harg1 : arg1.IsWhole) (arg2 : Memref sig .tc .vmem S1x256x512 .i32) (harg2 : arg2.IsWhole)
    (arg3 : Memref sig .tc .vmem S256x4864 .bf16) (harg3 : arg3.IsWhole) (arg4 : Memref sig .tc .vmem S1x1 .f32) (harg4 : arg4.IsWhole) (arg5 : Memref sig .tc .vmem S60x512 .f32) (harg5 : arg5.IsWhole) (hc0 : cond0_0 i) (hc1 : ¬cond0_1 i)
    (x0 : Vec Ideal S1x19x256x512 .f32) (x1 : Vec Ideal S1x256x512 .i32) (x2 : Vec Ideal S256x4864 .bf16) :
    sout0_A_0 c i arg1 harg1 arg2 harg2 arg3 harg3 arg4 harg4 arg5 harg5 hc0 hc1 x0 x1 x2 = addf (F := Ideal) (s := S60x512) (φ := .f32) (k0_pay231 (F := Ideal)) (block x0 x1 x2) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero zeros2]
  unfold k0_pay7
  simp only [View.readAt_eq_ld]
  have l0 : View.ld (View.read (Elt Ideal) arg1.view (harg1.unread x0)) (Rect.unit ![0, 0, 0, 0] ![1, 19, 256, 512] inb_S1x19x256x512_S1x19x256x512_0_0_0_0) = x0 := by
    rw [harg1.read_unread, View.ld_unit_zero (S := S1x19x256x512) zeros4]
  have l1 : View.ld (View.read (Elt Ideal) arg2.view (harg2.unread x1)) (Rect.unit ![0, 0, 0] ![1, 256, 512] inb_S1x256x512_S1x256x512_0_0_0) = x1 := by
    rw [harg2.read_unread, View.ld_unit_zero (S := S1x256x512) zeros3]
  have l2 : View.ld (View.read (Elt Ideal) arg3.view (harg3.unread x2)) (Rect.unit ![0, 0] ![256, 4864] inb_S256x4864_S256x4864_0_0) = x2 := by
    rw [harg3.read_unread, View.ld_unit_zero (S := S256x4864) zeros2]
  rw [l0, l1, l2, shapeCast_self, View.readCov_unit_zero (S := S60x512) _ zeros2]
  exact congrArg (addf (F := Ideal) (s := S60x512) (φ := .f32) (k0_pay231 (F := Ideal))) (concat_rows (row (k0_pay233 x0 x1 x2) (k0_pay234 x0 x1 x2)) _ rfl _)

/-- The pieces the last point leaves in the scratch: what was there plus the block. -/
theorem sout_C (c : Dev nD) (i : grid0.Coords) (arg1 : Memref sig .tc .vmem S1x19x256x512 .f32) (harg1 : arg1.IsWhole) (arg2 : Memref sig .tc .vmem S1x256x512 .i32) (harg2 : arg2.IsWhole)
    (arg3 : Memref sig .tc .vmem S256x4864 .bf16) (harg3 : arg3.IsWhole) (arg4 : Memref sig .tc .vmem S1x1 .f32) (harg4 : arg4.IsWhole) (arg5 : Memref sig .tc .vmem S60x512 .f32) (harg5 : arg5.IsWhole) (hc0 : ¬cond0_0 i) (hc1 : cond0_1 i)
    (x0 : Vec Ideal S1x19x256x512 .f32) (x1 : Vec Ideal S1x256x512 .i32) (x2 : Vec Ideal S256x4864 .bf16) (xs0 : Vec Ideal S60x512 .f32) :
    sout0_C_0 c i arg1 harg1 arg2 harg2 arg3 harg3 arg4 harg4 arg5 harg5 hc0 hc1 x0 x1 x2 xs0 = addf (F := Ideal) (s := S60x512) (φ := .f32) xs0 (block x0 x1 x2) := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero zeros2]
  unfold k0_pay7
  simp only [View.readAt_eq_ld]
  have l0 : View.ld (View.read (Elt Ideal) arg1.view (harg1.unread x0)) (Rect.unit ![0, 0, 0, 0] ![1, 19, 256, 512] inb_S1x19x256x512_S1x19x256x512_0_0_0_0) = x0 := by
    rw [harg1.read_unread, View.ld_unit_zero (S := S1x19x256x512) zeros4]
  have l1 : View.ld (View.read (Elt Ideal) arg2.view (harg2.unread x1)) (Rect.unit ![0, 0, 0] ![1, 256, 512] inb_S1x256x512_S1x256x512_0_0_0) = x1 := by
    rw [harg2.read_unread, View.ld_unit_zero (S := S1x256x512) zeros3]
  have l2 : View.ld (View.read (Elt Ideal) arg3.view (harg3.unread x2)) (Rect.unit ![0, 0] ![256, 4864] inb_S256x4864_S256x4864_0_0) = x2 := by
    rw [harg3.read_unread, View.ld_unit_zero (S := S256x4864) zeros2]
  have l5 : View.ld (View.read (Elt Ideal) arg5.view (harg5.unread xs0)) (Rect.unit ![0, 0] ![60, 512] inb_S60x512_S60x512_0_0) = xs0 := by
    rw [harg5.read_unread, View.ld_unit_zero (S := S60x512) zeros2]
  rw [l0, l1, l2, l5, shapeCast_self]
  exact congrArg (addf (F := Ideal) (s := S60x512) (φ := .f32) xs0) (concat_rows (row (k0_pay233 x0 x1 x2) (k0_pay234 x0 x1 x2)) _ rfl _)

/-- Row `r` of an array of sixty rows. -/
def rowAt (sc : FVec Ideal S60x512 .f32) (r : ℕ) : FVec Ideal S1x512 .f32 :=
  fun j => if h : r < 60 then sc (ix2 ⟨r, h⟩ (j 1)) else 0

/-- The sum of row `r`, as a one-element array. -/
def colSum (rows : ℕ → FVec Ideal S1x512 .f32) (r : ℕ) : FVec Ideal S1x1 .f32 :=
  shapeCast S1x1 (multiReduction .add [1] S1 (rows r) 0x00000000#32 reduces_S1x512_S1 (.inl rfl) rfl) shapeCasts_S1_S1x1

/-- One number as a one-element array. -/
def one1 (w : BitVec 32) : FVec Ideal S1x1 .f32 := broadcast S1x1 (Scalar.ofBits (F := Ideal) .f32 w)

/-- What lies below threshold `k` in all (`o = 0`: how many pixels, `o = 1`: their cross entropies); nothing below threshold 30. -/
def below (rows : ℕ → FVec Ideal S1x512 .f32) (o k : ℕ) : FVec Ideal S1x1 .f32 :=
  if k < 30 then colSum rows (2 * k + o) else one1 0x00000000#32

/-- What lies in bin `k`: below threshold `k` but not below threshold `k + 1`. -/
def bin (rows : ℕ → FVec Ideal S1x512 .f32) (o k : ℕ) : FVec Ideal S1x1 .f32 := subf (below rows o k) (below rows o (k + 1))

/-- The first `n + 1` terms added up from the left. -/
def addTo (f : ℕ → FVec Ideal S1x1 .f32) : ℕ → FVec Ideal S1x1 .f32
  | 0 => f 0
  | n + 1 => addf (addTo f n) (f (n + 1))

/-- The largest of the first `n + 1` terms, compared from the left. -/
def maxTo (f : ℕ → FVec Ideal S1x1 .f32) : ℕ → FVec Ideal S1x1 .f32
  | 0 => f 0
  | n + 1 => maximumf (maxTo f n) (f (n + 1))

/-- The smoothed histogram: half of bin `k` plus its mirror bin, times one hundredth. -/
def acc (rows : ℕ → FVec Ideal S1x512 .f32) (k : ℕ) : FVec Ideal S1x1 .f32 :=
  mulf (mulf (addf (bin rows 0 k) (bin rows 0 (29 - k))) (one1 0x3F000000#32)) (one1 0x3C23D70A#32)

/-- Its total, with a small number added. -/
def tot (rows : ℕ → FVec Ideal S1x512 .f32) : FVec Ideal S1x1 .f32 := addf (addTo (acc rows) 29) (one1 0x33D6BF95#32)

/-- The weight of bin `k`. -/
def weight (rows : ℕ → FVec Ideal S1x512 .f32) (k : ℕ) : FVec Ideal S1x1 .f32 :=
  select (cmpf .one (acc rows k) (one1 0x00000000#32)) (subf (one1 0x3F800000#32) (divf (acc rows k) (tot rows))) (one1 0x00000000#32)

/-- The loss the last point writes, from the rows of the finished scratch. -/
def loss (rows : ℕ → FVec Ideal S1x512 .f32) : FVec Ideal S1x1 .f32 :=
  divf (addTo (fun k => mulf (weight rows k) (bin rows 1 k)) 29)
    (mulf (addf (maxTo (weight rows) 29) (one1 0x33D6BF95#32)) (broadcast S1x1 (Named.named κ "total" 0x4A000000#32)))

/-- A load of what one store over the whole buffer left is a load of the stored value. -/
theorem readCov_whole {S : Shape} {e : EltTy} (v : View sig .tc .vmem S e) {off : Fin S.rank → Nat} (h : off = fun _ => 0)
    (inb : ∀ a, off a + S.size a ≤ S.size a) (w : S.Idx → Elt Ideal e) (r : Rect S) :
    v.readCov [(⟨Rect.unit off S.size inb, w⟩ : View.Piece (Elt Ideal) S e)] r.toLoadRect = View.ld w r := by
  rw [View.readCov_eq_canon_ld _ _ _ (fun y => ⟨_, List.mem_singleton_self _, View.mem_set_unit_zero h inb y⟩), View.canon_unit_zero h]

/-- Reading one row of a stored array. -/
theorem ld_row (w : FVec Ideal S60x512 .f32) (r : ℕ) (inb) :
    View.ld (Val := Elt Ideal) (e' := .f32) w (Rect.unit (s := S60x512) ![r, 0] S1x512.size inb) = rowAt w r := by
  funext j
  have hr : r < 60 := by have := inb 0; change r + 1 ≤ 60 at this; omega
  unfold rowAt
  rw [dif_pos hr]
  refine congrArg w (funext fun a => Fin.ext ?_)
  match a with
  | ⟨0, _⟩ =>
    have h0 : (j 0 : ℕ) = 0 := by have := (j 0).isLt; change (j 0 : ℕ) < 1 at this; omega
    show r + 1 * (j 0 : ℕ) = r
    omega
  | ⟨1, _⟩ =>
    show 0 + 1 * (j 1 : ℕ) = (j 1 : ℕ)
    omega

/-- Reading one row back after the whole array was stored. -/
theorem readCov_row (v : View sig .tc .vmem S60x512 .f32) (w : FVec Ideal S60x512 .f32) (r : ℕ) (inb) (inb') :
    v.readCov (Val := Elt Ideal) [⟨Rect.unit (s := S60x512) ![0, 0] S60x512.size inb, w⟩] (Rect.unit (s := S60x512) ![r, 0] S1x512.size inb').toLoadRect
      = rowAt w r := by
  rw [readCov_whole v zeros2 inb w, ld_row]

/-- A row of the scratch lies in it. -/
theorem inb_row (r : ℕ) (h : r < 60) (a : Fin 2) : (![r, 0] : Fin 2 → ℕ) a + S1x512.size a ≤ S60x512.size a := by
  match a with
  | ⟨0, _⟩ => show r + 1 ≤ 60; omega
  | ⟨1, _⟩ => show 0 + 512 ≤ 512; omega

set_option maxHeartbeats 2000000 in
/-- What the last point writes out: the loss of the scratch it leaves. -/
theorem out_C (c : Dev nD) (i : grid0.Coords) (arg1 : Memref sig .tc .vmem S1x19x256x512 .f32) (harg1 : arg1.IsWhole) (arg2 : Memref sig .tc .vmem S1x256x512 .i32) (harg2 : arg2.IsWhole)
    (arg3 : Memref sig .tc .vmem S256x4864 .bf16) (harg3 : arg3.IsWhole) (arg4 : Memref sig .tc .vmem S1x1 .f32) (harg4 : arg4.IsWhole) (arg5 : Memref sig .tc .vmem S60x512 .f32) (harg5 : arg5.IsWhole) (hc0 : ¬cond0_0 i) (hc1 : cond0_1 i)
    (x0 : Vec Ideal S1x19x256x512 .f32) (x1 : Vec Ideal S1x256x512 .i32) (x2 : Vec Ideal S256x4864 .bf16) (xs0 : Vec Ideal S60x512 .f32) :
    out0_C_3 c i arg1 harg1 arg2 harg2 arg3 harg3 arg4 harg4 arg5 harg5 hc0 hc1 x0 x1 x2 xs0 = loss (rowAt (addf (F := Ideal) (s := S60x512) (φ := .f32) xs0 (block x0 x1 x2))) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) zeros2]
  generalize hsc : k0_pay7 (F := Ideal) _ _ = sc
  have hs : sc = addf (F := Ideal) (s := S60x512) (φ := .f32) xs0 (block x0 x1 x2) := by
    rw [← hsc]
    unfold k0_pay7
    simp only [View.readAt_eq_ld]
    have l0 : View.ld (View.read (Elt Ideal) arg1.view (harg1.unread x0)) (Rect.unit ![0, 0, 0, 0] ![1, 19, 256, 512] inb_S1x19x256x512_S1x19x256x512_0_0_0_0) = x0 := by
      rw [harg1.read_unread, View.ld_unit_zero (S := S1x19x256x512) zeros4]
    have l1 : View.ld (View.read (Elt Ideal) arg2.view (harg2.unread x1)) (Rect.unit ![0, 0, 0] ![1, 256, 512] inb_S1x256x512_S1x256x512_0_0_0) = x1 := by
      rw [harg2.read_unread, View.ld_unit_zero (S := S1x256x512) zeros3]
    have l2 : View.ld (View.read (Elt Ideal) arg3.view (harg3.unread x2)) (Rect.unit ![0, 0] ![256, 4864] inb_S256x4864_S256x4864_0_0) = x2 := by
      rw [harg3.read_unread, View.ld_unit_zero (S := S256x4864) zeros2]
    have l5 : View.ld (View.read (Elt Ideal) arg5.view (harg5.unread xs0)) (Rect.unit ![0, 0] ![60, 512] inb_S60x512_S60x512_0_0) = xs0 := by
      rw [harg5.read_unread, View.ld_unit_zero (S := S60x512) zeros2]
    rw [l0, l1, l2, l5, shapeCast_self]
    exact congrArg (addf (F := Ideal) (s := S60x512) (φ := .f32) xs0) (concat_rows (row (k0_pay233 x0 x1 x2) (k0_pay234 x0 x1 x2)) _ rfl _)
  rw [← hs]
  clear hs hsc
  have hg : rowAt sc = fun r => if h : r < 60 then
      arg5.view.readCov (Val := Elt Ideal) [⟨Rect.unit (s := S60x512) ![0, 0] S60x512.size inb_S60x512_S60x512_0_0, sc⟩]
        (Rect.unit (s := S60x512) ![r, 0] S1x512.size (inb_row r h)).toLoadRect else fun _ => 0 := by
    funext r
    by_cases h : r < 60
    · rw [dif_pos h, readCov_row]
    · rw [dif_neg h]
      funext j
      exact dif_neg h
  rw [hg]
  rfl

end Cert.KStep

end
-- ==== Proof.KScratch.lean ====
/- The scratch over the whole grid: the sum of the sixteen points' blocks, and the loss of that sum in the result. -/
module

public import proofs.«01_k».proof.Proof.KStep
public import Idealize.ShloMosaic.Lib.StableHlo.ReadAt
public import Idealize.ShloMosaic.Lib.WordCmp

@[expose] public section

noncomputable section

namespace Cert.KScratch

open Idealize.ShloMosaic Idealize.ShloMosaic.TcCoe Idealize.SL.Sem
open Cert.KernelIdeal Cert.KernelIdeal.Gen Cert.KernelIdeal.Value Cert.KStep

variable (m : (ℓ : Loc nD τ sig) → Buf (Elt Ideal) ℓ)

/-- The block point `t` adds. -/
def pointBlock (c : Dev nD) (t : ℕ) : FVec Ideal S60x512 .f32 :=
  if h : t < cfg0.N then block (iblk m c 0 ⟨t, h⟩) (iblk m c 1 ⟨t, h⟩) (iblk m c 2 ⟨t, h⟩) else fun _ => 0

/-- The first `n` blocks added up. -/
def scratch (c : Dev nD) (n : ℕ) : FVec Ideal S60x512 .f32 := fun j => ∑ t ∈ Finset.range n, pointBlock m c t j

/-- A grid point adds its block to the scratch. -/
theorem scratch_succ (c : Dev nD) (n k : ℕ) (hk : k = n) (h : k < cfg0.N) :
    addf (F := Ideal) (s := S60x512) (φ := .f32) (scratch m c n) (block (iblk m c 0 ⟨k, h⟩) (iblk m c 1 ⟨k, h⟩) (iblk m c 2 ⟨k, h⟩))
      = scratch m c (n + 1) := by
  subst hk
  funext j
  show scratch m c k j + _ = _
  unfold scratch
  rw [Finset.sum_range_succ]
  unfold pointBlock
  rw [dif_pos h]

/-- The scratch starts at zero. -/
theorem zero_scratch (c : Dev nD) : k0_pay231 (F := Ideal) = scratch m c 0 := by
  unfold k0_pay231
  dsimp only
  rw [shapeCast_self]
  funext j
  show Ideal.ofBits .f32 0x00000000#32 = _
  rw [Ideal.ofBits_zero_f32]
  rfl

/-- The scratch after point `n`, the last one excepted. -/
theorem fold_scratch (c : Dev nD) : ∀ (n : ℕ) (_ : n < 15) (h : 0 + n < cfg0.N),
    (Pipeline.accAt (fun n h => stAt0 m c n h junk0) (stAt0 m c) 0 n h).2 = scratch m c (n + 1)
  | 0, _, h => by
    rw [Pipeline.accAt_zero, stAt0_A m c ⟨0, h⟩ junk0 (Nat.zero_mod _) (by show ¬(0 % 16 = 15); omega)]
    dsimp only
    rw [sout_A, zero_scratch m c]
    exact scratch_succ m c 0 0 rfl h
  | n + 1, hn, h => by
    have e := fold_scratch c n (by omega) (by omega)
    rw [Pipeline.accAt_succ]
    have hN : 0 + (n + 1) < cfg0.N := h
    rw [stAt0_B m c ⟨0 + (n + 1), hN⟩ _ (by show ¬((0 + (n + 1)) % 16 = 0); omega) (by show ¬((0 + (n + 1)) % 16 = 15); omega)]
    dsimp only
    rw [sout_B, e]
    exact scratch_succ m c (n + 1) (0 + (n + 1)) (Nat.zero_add _) hN

/-- The result is the loss of the sixteen blocks' sum. -/
theorem result_eq (c : Dev nD) : G3 m c = loss (rowAt (scratch m c 16)) := by
  rw [G3_last]
  have h15 : 0 + 14 < cfg0.N := lt_of_lt_of_eq (by decide) N_0.symm
  have h16 : 15 < cfg0.N := lt_of_lt_of_eq (by decide) N_0.symm
  have e := fold_scratch m c 14 (by omega) h15
  rw [Pipeline.accAt_succ]
  rw [stAt0_C m c ⟨0 + (14 + 1), h16⟩ _ (by show ¬((0 + (14 + 1)) % 16 = 0); omega) (by show (0 + (14 + 1)) % 16 = 15; omega)]
  dsimp only
  rw [out_C, e]
  exact congrArg (fun s => loss (rowAt s)) (scratch_succ m c 15 15 rfl h16)

/-- The identity matrix written nineteen times side by side, as the launch prepares it. -/
theorem tiles (c : Dev nD) (h : Fin 256) (x : Fin 4864) :
    (V m c main_v9 : FVec Ideal S256x4864 .bf16) (ix2 h x) = if x.val % 256 = h.val then (1 : EReal) else (0 : EReal) := by
  unfold V
  after_reads_at
  have e : IntOp.cmpi CmpIPredicate.eq (IntOp.addi (BitVec.ofNat 32 h) 0#32) (BitVec.ofNat 32 (x.val % 256))
      = if x.val % 256 = h.val then 1#1 else 0#1 := by
    rw [WordCmp.cmpi_eq_eq, show IntOp.addi (BitVec.ofNat 32 h.val) 0#32 = BitVec.ofNat 32 h.val from BitVec.add_zero _]
    by_cases hx : x.val % 256 = h.val
    · rw [if_pos hx, hx]; simp
    · rw [if_neg hx, decide_eq_false]
      · rfl
      · intro e
        have e' := congrArg BitVec.toNat e
        simp only [BitVec.toNat_ofNat] at e'
        have := h.isLt
        omega
  rw [e]
  split
  · show ((BitVec.toNat 1#1 : ℝ) : EReal) = 1
    norm_num
  · show ((BitVec.toNat 0#1 : ℝ) : EReal) = 0
    norm_num

/-- Which block of each array a point reads: image `t / 2`, half `t % 2`; the tiled identity whole. -/
theorem index_facts : ∀ t : Fin cfg0.N, win0_0.index t = ![t.val / 2, 0, t.val % 2, 0] ∧ win0_1.index t = ![t.val / 2, t.val % 2, 0]
    ∧ win0_2.index t = ![0, 0] := (by decide +kernel : ∀ t : Fin grid0.N, _)

/-- The logits a point reads. -/
theorem logits (c : Dev nD) (t : Fin cfg0.N) (ch : Fin 19) (h : Fin 256) (w : Fin 512) (hb : t.val / 2 < 8) (hr : 256 * (t.val % 2) + h.val < 512) :
    (iblk m c 0 t : Vec Ideal S1x19x256x512 .f32) (ix4 0 ch h w)
      = (m ((c : Thread nD τ).loc main_arg0) : Vec Ideal S8x19x512x512 .f32) (ix4 ⟨t.val / 2, hb⟩ ch ⟨256 * (t.val % 2) + h.val, hr⟩ w) := by
  obtain ⟨e0, -, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 2; rw [e0]; show t.val / 2 * 1 + 1 * 0 = _; omega
  | ⟨1, _⟩ => show win0_0.index t 1 * 19 + 1 * ch.val = ch.val; rw [e0]; show 0 * 19 + 1 * ch.val = _; omega
  | ⟨2, _⟩ => show win0_0.index t 2 * 256 + 1 * h.val = 256 * (t.val % 2) + h.val; rw [e0]; show t.val % 2 * 256 + 1 * h.val = _; omega
  | ⟨3, _⟩ => show win0_0.index t 3 * 512 + 1 * w.val = w.val; rw [e0]; show 0 * 512 + 1 * w.val = _; omega

/-- The labels a point reads. -/
theorem labels (c : Dev nD) (t : Fin cfg0.N) (h : Fin 256) (w : Fin 512) (hb : t.val / 2 < 8) (hr : 256 * (t.val % 2) + h.val < 512) :
    (iblk m c 1 t : Vec Ideal S1x256x512 .i32) (ix3 0 h w)
      = (m ((c : Thread nD τ).loc main_arg1) : Vec Ideal S8x512x512 .i32) (ix3 ⟨t.val / 2, hb⟩ ⟨256 * (t.val % 2) + h.val, hr⟩ w) := by
  obtain ⟨-, e1, -⟩ := index_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = t.val / 2; rw [e1]; show t.val / 2 * 1 + 1 * 0 = _; omega
  | ⟨1, _⟩ => show win0_1.index t 1 * 256 + 1 * h.val = 256 * (t.val % 2) + h.val; rw [e1]; show t.val % 2 * 256 + 1 * h.val = _; omega
  | ⟨2, _⟩ => show win0_1.index t 2 * 512 + 1 * w.val = w.val; rw [e1]; show 0 * 512 + 1 * w.val = _; omega

/-- The tiled identity a point reads. -/
theorem tile_block (c : Dev nD) (t : Fin cfg0.N) (h : Fin 256) (x : Fin 4864) :
    (iblk m c 2 t : Vec Ideal S256x4864 .bf16) (ix2 h x) = if x.val % 256 = h.val then (1 : EReal) else (0 : EReal) := by
  obtain ⟨-, -, e2⟩ := index_facts t
  rw [← tiles m c h x]
  unfold iblk
  rw [View.read_apply]
  show V m c main_v9 _ = V m c main_v9 _
  refine congrArg (V m c main_v9) (funext fun a => Fin.ext ?_)
  match a with
  | ⟨0, _⟩ => show win0_2.index t 0 * 256 + 1 * h.val = h.val; rw [e2]; show 0 * 256 + 1 * h.val = _; omega
  | ⟨1, _⟩ => show win0_2.index t 1 * 4864 + 1 * x.val = x.val; rw [e2]; show 0 * 4864 + 1 * x.val = _; omega

end Cert.KScratch

end
-- ==== Proof.KBlock.lean ====
/- What a grid point computes of each pixel: the probability of its label, its cross entropy, and whether it is counted below
   a threshold. -/
module

public import proofs.«01_k».proof.Proof.KScratch

@[expose] public section

noncomputable section

namespace Cert.KBlock

open Idealize.ShloMosaic Idealize.ShloMosaic.TcCoe Idealize.SL.Sem
open Cert.KernelIdeal Cert.KernelIdeal.Gen Cert.KStep Cert.Consts Cert.Pixel

/-- The named constants are the fractions. -/
theorem named_eq (name : String) (φ : FTy) (bits : BitVec φ.bits) (r : ℝ) (h : κ name = some ((r : ℝ) : EReal)) :
    (Named.named κ name bits : Ideal φ) = (r : EReal) := by
  show (κ name).getD _ = _
  rw [h]; rfl

/-- Threshold `k` is `(30 - k) / 30`. -/
theorem threshold_eq (k : ℕ) (hk : k < 30) : threshold ⟨k, hk⟩ = ((((30 - k : ℕ) : ℝ) / 30 : ℝ) : EReal) := by
  interval_cases k
  case «0» => exact one16.trans (by norm_num)
  case «15» => exact half16.trans (by norm_num)
  all_goals
    refine (named_eq _ .bf16 _ _ rfl).trans (congrArg _ ?_)
    norm_num

/-- A choice by a comparison of two words is a choice by their equality. -/
theorem select_eq {w : ℕ} (x y : BitVec w) (a b : EReal) : Scalar.select (IntOp.cmpi .eq x y) a b = if x = y then a else b := by
  rw [WordCmp.cmpi_eq_eq]
  by_cases h : x = y
  · rw [if_pos h, decide_eq_true h]; rfl
  · rw [if_neg h, decide_eq_false h]; rfl

/-- Among the classes the one whose 16-bit number is the label's contributes. -/
theorem num_class16 (c : Fin 19) (e : Fin 19 → EReal) :
    (∑ ch : Fin 19, if BitVec.ofNat 16 ch.val = BitVec.setWidth 16 (BitVec.ofNat 32 c.val) then e ch else 0) = e c := by
  rw [Finset.sum_eq_single c]
  · rw [if_pos]
    apply BitVec.eq_of_toNat_eq
    simp only [BitVec.toNat_ofNat, BitVec.toNat_setWidth]
    have := c.isLt
    omega
  · intro b _ hb
    rw [if_neg]
    intro h
    have h' := congrArg BitVec.toNat h
    simp only [BitVec.toNat_ofNat, BitVec.toNat_setWidth] at h'
    exact hb (Fin.ext (by have := b.isLt; have := c.isLt; omega))
  · intro h; exact absurd (Finset.mem_univ c) h

/-- The tiled identity picks the pixel's own row out of the classes' blocks. -/
theorem prob_eq (x0 : Vec Ideal S1x19x256x512 .f32) (x1 : Vec Ideal S1x256x512 .i32) (x2 : Vec Ideal S256x4864 .bf16)
    (hx : ∀ (h : Fin 256) (x : Fin 4864), x2 (ix2 h x) = if x.val % 256 = h.val then (1 : EReal) else (0 : EReal)) (h : Fin 256) (w : Fin 512)
    (c : Fin 19) (hc : x1 (ix3 0 h w) = BitVec.ofNat 32 c.val) :
    k0_pay232 x0 x1 x2 (ix2 h w) = prob (fun ch => x0 (ix4 0 ch h w)) (x1 (ix3 0 h w)) := by
  unfold k0_pay232
  pointwise
  unfold prob
  rw [hc, num_class c (fun ch => Ideal.exp (x0 (ix4 0 ch h w)))]
  congr 1
  rw [← (finProdFinEquiv (m := 19) (n := 256)).sum_comp, Fintype.sum_prod_type, ← num_class16 c (fun ch => Ideal.exp (x0 (ix4 0 ch h w)))]
  refine Finset.sum_congr rfl fun ch _ => ?_
  have hd : ∀ r : Fin 256, (finProdFinEquiv (ch, r)).val / 256 = ch.val := fun r => by
    show (r.val + 256 * ch.val) / 256 = _
    have := r.isLt; omega
  have hm : ∀ r : Fin 256, (finProdFinEquiv (ch, r)).val % 256 = r.val := fun r => by
    show (r.val + 256 * ch.val) % 256 = _
    have := r.isLt; omega
  rw [Finset.sum_eq_single h]
  · have ho : x2 (ix2 h (finProdFinEquiv (ch, h))) = (1 : EReal) := (hx _ _).trans (if_pos (hm h))
    rw [select_eq, ho, one_mul]
    simp only [hd, hm]
    rw [hc]
  · intro r _ hr
    have hz : x2 (ix2 h (finProdFinEquiv (ch, r))) = (0 : EReal) :=
      (hx _ _).trans (if_neg (by rw [hm]; exact fun e => hr (Fin.ext e)))
    rw [select_eq, hz, zero_mul]
    exact ite_self _
  · intro e; exact absurd (Finset.mem_univ h) e

/-- The count or sum below a threshold, column by column. -/
theorem sumBelow_apply (py v : FVec Ideal S256x512 .bf16) (q : Ideal .bf16) (w : Fin 512) :
    sumBelow py v q (ix2 0 w) = ∑ h : Fin 256, if py (ix2 h w) < q then v (ix2 h w) else 0 := by
  unfold sumBelow k0_pay237 k0_pay235
  pointwise

/-- A row of the block at a column whose pixels are all good: over the pixels whose bin is at least the row's, the number
    of them or the sum of their cross entropies. -/
theorem block_apply (x0 : Vec Ideal S1x19x256x512 .f32) (x1 : Vec Ideal S1x256x512 .i32) (x2 : Vec Ideal S256x4864 .bf16)
    (hx : ∀ (h : Fin 256) (x : Fin 4864), x2 (ix2 h x) = if x.val % 256 = h.val then (1 : EReal) else (0 : EReal)) (w : Fin 512)
    (p : Fin 256 → ℝ) (hp : ∀ h, Inner (p h)) (hc : ∀ h, ∃ c : Fin 19, x1 (ix3 0 h w) = BitVec.ofNat 32 c.val)
    (hv : ∀ h, prob (fun ch => x0 (ix4 0 ch h w)) (x1 (ix3 0 h w)) = (p h : EReal)) (r : Fin 60) :
    block x0 x1 x2 (ix2 r w) = ((∑ h : Fin 256, if r.val / 2 ≤ bin (p h) then (if r.val % 2 = 0 then 1 else -Real.log (p h)) else 0 : ℝ) : EReal) := by
  show row _ _ r (ix2 0 w) = _
  unfold row
  rw [sumBelow_apply, ← sum_coe]
  refine Finset.sum_congr rfl fun h _ => ?_
  obtain ⟨c, hc⟩ := hc h
  have e : k0_pay232 x0 x1 x2 (ix2 h w) = (p h : EReal) := (prob_eq x0 x1 x2 hx h w c hc).trans (hv h)
  have e3 : k0_pay233 x0 x1 x2 (ix2 h w) = (p h : EReal) := e
  have e4 : k0_pay234 x0 x1 x2 (ix2 h w) = ((-Real.log (p h) : ℝ) : EReal) := by
    show (Ideal.ofBits .f32 0x00000000#32 : EReal) - Ideal.log (k0_pay232 x0 x1 x2 (ix2 h w)) = _
    rw [e, zero]
    show ((0 : ℝ) : EReal) - (if _ then _ else _) = _
    rw [if_neg (not_le.mpr (hp h).1), ← EReal.coe_sub, zero_sub]
  have e6 : (k0_pay236 (F := Ideal)) (ix2 h w) = ((1 : ℝ) : EReal) := one16
  rw [e3, threshold_eq]
  have hb := (hp h).below_iff (r.val / 2) (by have := r.isLt; omega)
  by_cases hk : r.val / 2 ≤ bin (p h)
  · rw [if_pos hk, if_pos (EReal.coe_lt_coe_iff.mpr (hb.mpr hk))]
    by_cases hr : r.val % 2 = 0
    · rw [if_pos hr, if_pos hr, e6]
    · rw [if_neg hr, if_neg hr, e4]
  · rw [if_neg hk, if_neg (fun h' => hk (hb.mp (EReal.coe_lt_coe_iff.mp h')))]
    rfl

end Cert.KBlock

end
-- ==== Proof.KLoss.lean ====
/- The loss the last grid point computes from the rows of the scratch, as a real number. -/
module

public import proofs.«01_k».proof.Proof.KBlock

@[expose] public section

noncomputable section

namespace Cert.KLoss

open Idealize.ShloMosaic Idealize.ShloMosaic.TcCoe Idealize.SL.Sem
open Cert.KernelIdeal Cert.KernelIdeal.Gen Cert.Consts

/-- The one index of a one-element array. -/
abbrev o : S1x1.Idx := ix2 0 0

/-- A sum from the left of reals. -/
theorem addTo_real (f : ℕ → FVec Ideal S1x1 .f32) (F : ℕ → ℝ) (n : ℕ) (h : ∀ k ≤ n, f k o = (F k : EReal)) :
    KStep.addTo f n o = ((∑ k ∈ Finset.range (n + 1), F k : ℝ) : EReal) := by
  induction n with
  | zero => rw [Finset.sum_range_one]; exact h 0 (le_refl _)
  | succ n ih =>
    show (KStep.addTo f n o : EReal) + f (n + 1) o = _
    rw [ih fun k hk => h k (by omega), h (n + 1) (le_refl _), Finset.sum_range_succ _ (n + 1), EReal.coe_add]

/-- The greatest of reals, from the left. -/
theorem maxTo_real (f : ℕ → FVec Ideal S1x1 .f32) (F : ℕ → ℝ) (n : ℕ) (h : ∀ k ≤ n, f k o = (F k : EReal)) :
    KStep.maxTo f n o = (Model.greatest F n : EReal) := by
  induction n with
  | zero => exact h 0 (le_refl _)
  | succ n ih =>
    show max (KStep.maxTo f n o : EReal) (f (n + 1) o) = _
    rw [ih fun k hk => h k (by omega), h (n + 1) (le_refl _)]
    exact (EReal.coe_strictMono.monotone.map_max (a := Model.greatest F n) (b := F (n + 1))).symm

/-- A row's sum. -/
theorem colSum_apply (rows : ℕ → FVec Ideal S1x512 .f32) (r : ℕ) : KStep.colSum rows r o = ∑ w : Fin 512, rows r (ix2 0 w) := by
  unfold KStep.colSum
  pointwise

variable {rows : ℕ → FVec Ideal S1x512 .f32} {C E : ℕ → ℝ}

/-- The rows' sums are the reals `C` (the even rows) and `E` (the odd rows), which end at 30. -/
structure Sums (rows : ℕ → FVec Ideal S1x512 .f32) (C E : ℕ → ℝ) : Prop where
  even : ∀ k < 30, ∑ w : Fin 512, rows (2 * k) (ix2 0 w) = (C k : EReal)
  odd : ∀ k < 30, ∑ w : Fin 512, rows (2 * k + 1) (ix2 0 w) = (E k : EReal)
  even_end : C 30 = 0
  odd_end : E 30 = 0
  nonneg : ∀ k, 0 ≤ C k - C (k + 1)

/-- The number of pixels from a threshold on, as the kernel sums it. -/
theorem Sums.below_even (s : Sums rows C E) (k : ℕ) (hk : k ≤ 30) : KStep.below rows 0 k o = (C k : EReal) := by
  unfold KStep.below
  by_cases h : k < 30
  · rw [if_pos h]; exact (colSum_apply rows _).trans (s.even k h)
  · rw [if_neg h, show k = 30 by omega, s.even_end]; exact zero

/-- The entropies from a threshold on, as the kernel sums them. -/
theorem Sums.below_odd (s : Sums rows C E) (k : ℕ) (hk : k ≤ 30) : KStep.below rows 1 k o = (E k : EReal) := by
  unfold KStep.below
  by_cases h : k < 30
  · rw [if_pos h]; exact (colSum_apply rows _).trans (s.odd k h)
  · rw [if_neg h, show k = 30 by omega, s.odd_end]; exact zero

/-- The number of pixels in a bin. -/
theorem Sums.bin_even (s : Sums rows C E) (k : ℕ) (hk : k < 30) : KStep.bin rows 0 k o = ((C k - C (k + 1) : ℝ) : EReal) := by
  show (KStep.below rows 0 k o : EReal) - KStep.below rows 0 (k + 1) o = _
  rw [s.below_even k (by omega), s.below_even (k + 1) (by omega), EReal.coe_sub]

/-- The entropies in a bin. -/
theorem Sums.bin_odd (s : Sums rows C E) (k : ℕ) (hk : k < 30) : KStep.bin rows 1 k o = ((E k - E (k + 1) : ℝ) : EReal) := by
  show (KStep.below rows 1 k o : EReal) - KStep.below rows 1 (k + 1) o = _
  rw [s.below_odd k (by omega), s.below_odd (k + 1) (by omega), EReal.coe_sub]

/-- The smoothed count of a bin. -/
theorem Sums.acc (s : Sums rows C E) (k : ℕ) (hk : k < 30) :
    KStep.acc rows k o = (Model.accum (fun k => C k - C (k + 1)) k : EReal) := by
  show ((KStep.bin rows 0 k o : EReal) + KStep.bin rows 0 (29 - k) o) * Ideal.ofBits .f32 0x3F000000#32 * Ideal.ofBits .f32 0x3C23D70A#32 = _
  rw [s.bin_even k hk, s.bin_even (29 - k) (by omega), half, hundredth_eq, ← EReal.coe_add, ← EReal.coe_mul, ← EReal.coe_mul]
  rfl

/-- The normalizer of the smoothed counts. -/
theorem Sums.tot (s : Sums rows C E) : KStep.tot rows o = (Model.total (fun k => C k - C (k + 1)) : EReal) := by
  show (KStep.addTo (KStep.acc rows) 29 o : EReal) + Ideal.ofBits .f32 0x33D6BF95#32 = _
  rw [addTo_real _ _ 29 fun k hk => s.acc k (by omega), tiny_eq, ← EReal.coe_add]
  rfl

/-- The weight of a bin. -/
theorem Sums.weight (s : Sums rows C E) (k : ℕ) (hk : k < 30) :
    KStep.weight rows k o = (Model.weight (fun k => C k - C (k + 1)) k : EReal) := by
  show Scalar.select (Ideal.cmp .one (KStep.acc rows k o) (Ideal.ofBits .f32 0x00000000#32))
    ((Ideal.ofBits .f32 0x3F800000#32 : EReal) - Ideal.div (KStep.acc rows k o) (KStep.tot rows o)) (Ideal.ofBits .f32 0x00000000#32 : EReal) = _
  rw [s.acc k hk, s.tot, zero, one, Pixel.div_coe _ _ (Model.total_pos s.nonneg).ne', ← EReal.coe_sub]
  unfold Model.weight
  by_cases h : Model.accum (fun k => C k - C (k + 1)) k = 0
  · rw [if_pos h, h]
    have e : Ideal.cmp .one ((0 : ℝ) : EReal) ((0 : ℝ) : EReal) = 0#1 := by simp [Ideal.cmp]
    rw [e]; rfl
  · rw [if_neg h]
    have e : Ideal.cmp .one ((Model.accum (fun k => C k - C (k + 1)) k : ℝ) : EReal) ((0 : ℝ) : EReal) = 1#1 := by
      simp [Ideal.cmp, h]
    rw [e]; rfl

/-- The loss from the rows is the loss from the bins' counts and entropies. -/
theorem Sums.loss (s : Sums rows C E) :
    KStep.loss rows o = (Model.loss (fun k => C k - C (k + 1)) (fun k => E k - E (k + 1)) : EReal) := by
  show Ideal.div (KStep.addTo (fun k => mulf (KStep.weight rows k) (KStep.bin rows 1 k)) 29 o)
    (((KStep.maxTo (KStep.weight rows) 29 o : EReal) + Ideal.ofBits .f32 0x33D6BF95#32) * (Named.named κ "total" 0x4A000000#32 : Ideal .f32)) = _
  rw [addTo_real _ (fun k => Model.weight (fun k => C k - C (k + 1)) k * (E k - E (k + 1))) 29 fun k hk => by
      show (KStep.weight rows k o : EReal) * KStep.bin rows 1 k o = _
      rw [s.weight k (by omega), s.bin_odd k (by omega), EReal.coe_mul],
    maxTo_real _ _ 29 fun k hk => s.weight k (by omega), tiny_eq, KBlock.named_eq "total" .f32 _ _ rfl, total_eq, ← EReal.coe_add, ← EReal.coe_mul]
  rw [Pixel.div_coe]
  · rfl
  · exact (mul_pos (Model.top_pos s.nonneg) (add_pos (by norm_num) tiny_pos)).ne'

end Cert.KLoss

end
-- ==== Proof.Image.lean ====
/- The pixels of all images, each with its probability, bin and cross entropy. -/
module

public import proofs.«01_k».proof.Proof.KLoss

@[expose] public section

noncomputable section

namespace Cert.Image

open Cert.Pixel

/-- A pixel: its image, its row and its column. -/
abbrev Px : Type := Fin 8 × Fin 512 × Fin 512

/-- Logits by image, class, row and column. -/
abbrev Logits : Type := Fin 8 → Fin 19 → Fin 512 → Fin 512 → EReal

/-- Targets by image, row and column. -/
abbrev Targets : Type := Fin 8 → Fin 512 → Fin 512 → BitVec 32

/-- The logits of one pixel. -/
def lg (A : Logits) (i : Px) : Fin 19 → EReal := fun ch => A i.1 ch i.2.1 i.2.2

/-- The label of one pixel. -/
def lb (T : Targets) (i : Px) : BitVec 32 := T i.1 i.2.1 i.2.2

/-- The probability of the label of one pixel, as a real. -/
def p (A : Logits) (T : Targets) (i : Px) : ℝ := (prob (lg A i) (lb T i)).toReal

/-- The bin of one pixel. -/
def K (A : Logits) (T : Targets) (i : Px) : ℕ := bin (p A T i)

/-- The cross entropy of one pixel. -/
def L (A : Logits) (T : Targets) (i : Px) : ℝ := -Real.log (p A T i)

/-- Every pixel is a good one. -/
def AllGood (A : Logits) (T : Targets) : Prop := ∀ i : Px, ∃ (c : Fin 19) (a : Fin 19 → ℝ), Good (lg A i) (lb T i) c a

variable {A : Logits} {T : Targets}

/-- A good pixel's probability, by its exponentials. -/
theorem p_eq {i : Px} {c : Fin 19} {a : Fin 19 → ℝ} (g : Good (lg A i) (lb T i) c a) : p A T i = a c / ∑ ch, a ch := by
  unfold p
  rw [g.value, EReal.toReal_coe]

/-- Every probability is off the bins' edges. -/
theorem AllGood.inner (h : AllGood A T) (i : Px) : Inner (p A T i) := by
  obtain ⟨c, a, g⟩ := h i
  rw [p_eq g]; exact g.inner

/-- Every probability is a real number. -/
theorem AllGood.value (h : AllGood A T) (i : Px) : prob (lg A i) (lb T i) = (p A T i : EReal) := by
  obtain ⟨c, a, g⟩ := h i
  rw [p_eq g]; exact g.value

/-- Every bin is one of the thirty. -/
theorem AllGood.bin_lt (h : AllGood A T) (i : Px) : K A T i < 30 := (h.inner i).bin_lt

/-- The sum over the images and rows, taken by halves of images. -/
theorem halves {M : Type} [AddCommMonoid M] (F : Fin 8 → Fin 512 → M) :
    (∑ t : Fin 16, ∑ h : Fin 256, F ⟨t.val / 2, by omega⟩ ⟨256 * (t.val % 2) + h.val, by omega⟩) = ∑ b : Fin 8, ∑ r : Fin 512, F b r := by
  rw [← (finProdFinEquiv (m := 8) (n := 2)).sum_comp, Fintype.sum_prod_type]
  refine Finset.sum_congr rfl fun b _ => ?_
  rw [← (finProdFinEquiv (m := 2) (n := 256)).sum_comp, Fintype.sum_prod_type]
  refine Finset.sum_congr rfl fun q _ => Finset.sum_congr rfl fun h _ => ?_
  have e : (finProdFinEquiv (b, q)).val = q.val + 2 * b.val := rfl
  have e' : (finProdFinEquiv (q, h)).val = h.val + 256 * q.val := rfl
  congr 1
  · exact Fin.ext (by show (finProdFinEquiv (b, q)).val / 2 = b.val; rw [e]; omega)
  · exact Fin.ext (by show 256 * ((finProdFinEquiv (b, q)).val % 2) + h.val = (finProdFinEquiv (q, h)).val; rw [e, e']; omega)

/-- The sum over the columns of the halves' sums is the sum over the pixels. -/
theorem columns {M : Type} [AddCommMonoid M] (F : Px → M) :
    (∑ w : Fin 512, ∑ t : Fin 16, ∑ h : Fin 256, F (⟨t.val / 2, by omega⟩, ⟨256 * (t.val % 2) + h.val, by omega⟩, w)) = ∑ i, F i := by
  rw [Finset.sum_congr rfl fun w _ => halves fun b r => F (b, r, w), Finset.sum_comm, Fintype.sum_prod_type]
  refine Finset.sum_congr rfl fun b _ => ?_
  rw [Finset.sum_comm, Fintype.sum_prod_type]

end Cert.Image

end
-- ==== Proof.KFinal.lean ====
/- The kernel's result as a real number: the loss from the bins' counts and entropies. -/
module

public import proofs.«01_k».proof.Proof.Image

@[expose] public section

noncomputable section

namespace Cert.KFinal

open Idealize.ShloMosaic Idealize.ShloMosaic.TcCoe Idealize.SL.Sem
open Cert.KernelIdeal Cert.KernelIdeal.Gen Cert.KernelIdeal.Value Cert.Image Cert.KStep

variable (m : (ℓ : Loc nD τ sig) → Buf (Elt Ideal) ℓ) (c : Dev nD)

/-- The logits in memory. -/
def logits : Logits := fun b ch r w => (m ((c : Thread nD τ).loc main_arg0) : Vec Ideal S8x19x512x512 .f32) (ix4 b ch r w)

/-- The labels in memory. -/
def labels : Targets := fun b r w => (m ((c : Thread nD τ).loc main_arg1) : Vec Ideal S8x512x512 .i32) (ix3 b r w)

/-- What row `r` takes from a pixel: one or its cross entropy, if its bin is at least the row's. -/
def part (A : Logits) (T : Targets) (r : Fin 60) (i : Px) : ℝ :=
  if r.val / 2 ≤ K A T i then (if r.val % 2 = 0 then 1 else L A T i) else 0

/-- A point's block at a column: the sum over the point's pixels of that column. -/
theorem pointBlock_apply (hg : AllGood (logits m c) (labels m c)) (t : Fin 16) (r : Fin 60) (w : Fin 512) :
    KScratch.pointBlock m c t.val (ix2 r w) = ((∑ h : Fin 256, part (logits m c) (labels m c) r
      (⟨t.val / 2, by omega⟩, ⟨256 * (t.val % 2) + h.val, by omega⟩, w) : ℝ) : EReal) := by
  have hN : t.val < cfg0.N := lt_of_lt_of_eq t.isLt N_0.symm
  unfold KScratch.pointBlock
  rw [dif_pos hN]
  have hlab : ∀ h : Fin 256, (iblk m c 1 ⟨t.val, hN⟩ : Vec Ideal S1x256x512 .i32) (ix3 0 h w)
      = lb (labels m c) (⟨t.val / 2, by omega⟩, ⟨256 * (t.val % 2) + h.val, by omega⟩, w) := fun h =>
    KScratch.labels m c ⟨t.val, hN⟩ h w _ _
  have hlog : ∀ h : Fin 256, (fun ch => (iblk m c 0 ⟨t.val, hN⟩ : Vec Ideal S1x19x256x512 .f32) (ix4 0 ch h w))
      = lg (logits m c) (⟨t.val / 2, by omega⟩, ⟨256 * (t.val % 2) + h.val, by omega⟩, w) := fun h =>
    funext fun ch => KScratch.logits m c ⟨t.val, hN⟩ ch h w _ _
  refine (KBlock.block_apply _ _ _ (fun h x => KScratch.tile_block m c ⟨t.val, hN⟩ h x) w
    (fun h => p (logits m c) (labels m c) (⟨t.val / 2, by omega⟩, ⟨256 * (t.val % 2) + h.val, by omega⟩, w))
    (fun h => hg.inner _) (fun h => ?_) (fun h => ?_) r).trans ?_
  · obtain ⟨k, a, g⟩ := hg (⟨t.val / 2, by omega⟩, ⟨256 * (t.val % 2) + h.val, by omega⟩, w)
    exact ⟨k, (hlab h).trans g.label⟩
  · rw [hlab h, hlog h]
    exact hg.value _
  · rfl

/-- A row of the finished scratch, summed over the columns: the sum over all pixels. -/
theorem row_sum (hg : AllGood (logits m c) (labels m c)) (r : Fin 60) :
    (∑ w : Fin 512, rowAt (KScratch.scratch m c 16) r.val (ix2 0 w)) = ((∑ i, part (logits m c) (labels m c) r i : ℝ) : EReal) := by
  rw [← columns, ← Pixel.sum_coe]
  refine Finset.sum_congr rfl fun w _ => ?_
  unfold rowAt
  rw [dif_pos r.isLt]
  show (∑ t ∈ Finset.range 16, KScratch.pointBlock m c t (ix2 r w)) = _
  rw [Finset.sum_range, ← Pixel.sum_coe]
  exact Finset.sum_congr rfl fun t _ => pointBlock_apply m c hg t r w

/-- The rows hold the tails of the counts and of the entropies. -/
theorem sums (hg : AllGood (logits m c) (labels m c)) : KLoss.Sums (rowAt (KScratch.scratch m c 16))
    (Model.tailSum (K (logits m c) (labels m c)) fun _ => 1) (Model.tailSum (K (logits m c) (labels m c)) (L (logits m c) (labels m c))) where
  even k hk := by
    refine (row_sum m c hg ⟨2 * k, by omega⟩).trans (congrArg _ (Finset.sum_congr rfl fun i _ => ?_))
    show (if 2 * k / 2 ≤ _ then (if 2 * k % 2 = 0 then (1 : ℝ) else _) else 0) = _
    rw [show 2 * k / 2 = k by omega, if_pos (show 2 * k % 2 = 0 by omega)]
  odd k hk := by
    refine (row_sum m c hg ⟨2 * k + 1, by omega⟩).trans (congrArg _ (Finset.sum_congr rfl fun i _ => ?_))
    show (if (2 * k + 1) / 2 ≤ _ then (if (2 * k + 1) % 2 = 0 then (1 : ℝ) else _) else 0) = _
    rw [show (2 * k + 1) / 2 = k by omega, if_neg (show ¬(2 * k + 1) % 2 = 0 by omega)]
  even_end := Model.tail_end _ hg.bin_lt _
  odd_end := Model.tail_end _ hg.bin_lt _
  nonneg k := by rw [Model.tail_sub]; exact Model.count_nonneg _ k

/-- The kernel's result. -/
theorem result (hg : AllGood (logits m c) (labels m c)) :
    (G3 m c : Vec Ideal S1x1 .f32) (ix2 0 0) = (Model.loss (Model.count (K (logits m c) (labels m c)))
      (Model.binSum (K (logits m c) (labels m c)) (L (logits m c) (labels m c))) : EReal) := by
  rw [KScratch.result_eq]
  refine (sums m c hg).loss.trans ?_
  have e1 := funext (Model.tail_sub (K (logits m c) (labels m c)) fun _ => 1)
  have e2 := funext (Model.tail_sub (K (logits m c) (labels m c)) (L (logits m c) (labels m c)))
  rw [e1, e2]
  rfl

end Cert.KFinal

end
-- ==== Proof.PreFacts.lean ====
/- What the precondition gives: every pixel is a good one. -/
module

public import proofs.«01_k».proof.Proof.KFinal
public import proofs.«01_k».proof.Proof.Gen.Pre_off_edges

@[expose] public section

noncomputable section

namespace Cert.PreFacts

open Idealize.ShloMosaic Idealize.SL.Sem
open Cert.Pre_off_edges Cert.Pre_off_edges.Gen Cert.Consts

/-- The precondition at a pixel. -/
theorem fn_apply (A : FVec Ideal S8x19x512x512 .f32) (T : IVec S8x512x512 32) (b : Fin 8) (r w : Fin 512) :
    fn (F := Ideal) A T (ix3 b r w) = Ideal.cmp .une
      (Ideal.liftRound Int.floor (Pixel.prob (fun ch => A (ix4 b ch r w)) (T (ix3 b r w)) * ((30 : ℝ) : EReal)))
      (Pixel.prob (fun ch => A (ix4 b ch r w)) (T (ix3 b r w)) * ((30 : ℝ) : EReal)) := by
  unfold fn fn_where
  pointwise
  have e0 : (id (constant (F := Ideal) S_ .f32 0x00000000#32) ix0 : EReal) = 0 := zero
  simp only [KBlock.select_eq, e0, thirty]
  rfl

/-- Where the precondition is all ones every pixel is good. -/
theorem good (A : FVec Ideal S8x19x512x512 .f32) (T : IVec S8x512x512 32) (h : fn (F := Ideal) A T = fun _ => 1#1) :
    Image.AllGood (fun b ch r w => A (ix4 b ch r w)) (fun b r w => T (ix3 b r w)) := by
  rintro ⟨b, r, w⟩
  apply Pixel.decode
  intro e
  have h' := congrFun h (ix3 b r w)
  rw [fn_apply] at h'
  have e' : Pixel.prob (fun ch => A (ix4 b ch r w)) (T (ix3 b r w)) * ((30 : ℝ) : EReal)
      = Ideal.liftRound Int.floor (Pixel.prob (fun ch => A (ix4 b ch r w)) (T (ix3 b r w)) * ((30 : ℝ) : EReal)) := e.symm
  rw [← e'] at h'
  simp [Ideal.cmp] at h'

end Cert.PreFacts

end
-- ==== Proof.Reduces.lean ====
/- Reductions along given axes, read at an index, at any extents: greatest elements, and sums of words that do not wrap. -/
module

public import proofs.«01_k».proof.Proof.PreFacts
public import Idealize.ShloMosaic.Lib.StableHlo.Predicate

@[expose] public section

noncomputable section

namespace Cert.Reduces

open Idealize.ShloMosaic

variable {n0 n1 n2 n3 n4 : ℕ} {u : Shape}

/-- The greatest element along the second of four axes. -/
theorem max_axis1 (h : (⟨4, ![n0, n1, n2, n3]⟩ : Shape).ReducesTo [1] ⟨3, ![n0, n2, n3]⟩) (hu : 0 < u.numel)
    (x : FVec Ideal ⟨4, ![n0, n1, n2, n3]⟩ .f32) (init : FVec Ideal u .f32) (b : Fin n0) (r : Fin n2) (w : Fin n3) :
    Host.reduce (FloatOps.maximumf (F := Ideal) (φ := .f32)) x init h hu (ix3 b r w)
      = Finset.univ.fold max (init (Shape.Idx.first hu) : EReal) (fun k : Fin n1 => (x (ix4 b k r w) : EReal)) := by
  rw [Host.reduce_eq_fold, h.fold_fiber_r4_a1]
  rfl

/-- The greatest element of a vector. -/
theorem max_axis0 (h : (⟨1, ![n0]⟩ : Shape).ReducesTo [0] ⟨0, ![]⟩) (hu : 0 < u.numel)
    (x : FVec Ideal ⟨1, ![n0]⟩ .f32) (init : FVec Ideal u .f32) :
    Host.reduce (FloatOps.maximumf (F := Ideal) (φ := .f32)) x init h hu ix0
      = Finset.univ.fold max (init (Shape.Idx.first hu) : EReal) (fun k : Fin n0 => (x (ix1 k) : EReal)) := by
  rw [Host.reduce_eq_fold, h.fold_fiber_r1_a0]
  rfl

/-- The conjunction along the last of five axes. -/
theorem and_axis4 (h : (⟨5, ![n0, n1, n2, n3, n4]⟩ : Shape).ReducesTo [4] ⟨4, ![n0, n1, n2, n3]⟩) (hu : 0 < u.numel)
    (x : IVec ⟨5, ![n0, n1, n2, n3, n4]⟩ 1) (init : IVec u 1) (b : Fin n0) (k : Fin n1) (r : Fin n2) (w : Fin n3) :
    Host.reduce IntOp.andi x init h hu (ix4 b k r w)
      = Finset.univ.fold IntOp.andi (init (Shape.Idx.first hu)) (fun l : Fin n4 => x (ix5 b k r w l)) := by
  rw [Host.reduce_eq_fold, h.fold_fiber_r5_a4]
  rfl

/-- A sum of words along the first of four axes, when it does not wrap. -/
theorem sum_axis0 (h : (⟨4, ![n0, n1, n2, n3]⟩ : Shape).ReducesTo [0] ⟨3, ![n1, n2, n3]⟩) (hu : 0 < u.numel)
    (x : IVec ⟨4, ![n0, n1, n2, n3]⟩ 32) (init : IVec u 32) (hi : init (Shape.Idx.first hu) = 0#32) (b : Fin n1) (r : Fin n2) (w : Fin n3)
    (hs : ∑ k : Fin n0, (x (ix4 k b r w)).toNat < 2 ^ 32) :
    (Host.reduce IntOp.addi x init h hu (ix3 b r w)).toNat = ∑ k : Fin n0, (x (ix4 k b r w)).toNat := by
  rw [Host.reduce_eq_fold, h.fold_fiber_r4_a0, hi]
  exact StableHlo.Predicate.toNat_fold_addi _ _ hs

/-- A sum of words along all of three axes, when it does not wrap. -/
theorem sum_axes012 (h : (⟨3, ![n0, n1, n2]⟩ : Shape).ReducesTo [0, 1, 2] ⟨0, ![]⟩) (hu : 0 < u.numel)
    (x : IVec ⟨3, ![n0, n1, n2]⟩ 32) (init : IVec u 32) (hi : init (Shape.Idx.first hu) = 0#32)
    (hs : ∑ i : Fin n0 × Fin n1 × Fin n2, (x (ix3 i.1 i.2.1 i.2.2)).toNat < 2 ^ 32) :
    (Host.reduce IntOp.addi x init h hu ix0).toNat = ∑ i : Fin n0 × Fin n1 × Fin n2, (x (ix3 i.1 i.2.1 i.2.2)).toNat := by
  have e : ∑ i ∈ Finset.univ.filter (fun i => h.drop i = ix0), (x i).toNat = ∑ i : Fin n0 × Fin n1 × Fin n2, (x (ix3 i.1 i.2.1 i.2.2)).toNat := by
    rw [h.sum_fiber_r3_a012]
    try simp only [Fintype.sum_prod_type]
  rw [Host.reduce_eq_fold, hi, StableHlo.Predicate.toNat_fold_addi _ _ (by rw [e]; exact hs), e]

/-- The indices of four axes that agree with a given first coordinate. -/
theorem drop_axes123 (h : (⟨4, ![n0, n1, n2, n3]⟩ : Shape).ReducesTo [1, 2, 3] ⟨1, ![n0]⟩) (k : Fin n0) (i : (⟨4, ![n0, n1, n2, n3]⟩ : Shape).Idx) :
    h.drop i = ix1 k ↔ ∃ p : Fin n1 × Fin n2 × Fin n3, ix4 k p.1 p.2.1 p.2.2 = i := by
  have e : ∀ i : (⟨4, ![n0, n1, n2, n3]⟩ : Shape).Idx, (h.drop i 0).val = (i 0).val := fun i => rfl
  constructor
  · intro hk
    refine ⟨(i 1, i 2, i 3), funext fun a => Fin.ext ?_⟩
    match a with
    | ⟨0, _⟩ => exact (congrArg (fun j : (⟨1, ![n0]⟩ : Shape).Idx => (j 0).val) hk).symm.trans (e i)
    | ⟨1, _⟩ => rfl
    | ⟨2, _⟩ => rfl
    | ⟨3, _⟩ => rfl
  · rintro ⟨p, rfl⟩
    refine funext fun a => Fin.ext ?_
    match a with
    | ⟨0, _⟩ => exact e _

/-- A sum of words along the last three of four axes, when it does not wrap. -/
theorem sum_axes123 (h : (⟨4, ![n0, n1, n2, n3]⟩ : Shape).ReducesTo [1, 2, 3] ⟨1, ![n0]⟩) (hu : 0 < u.numel)
    (x : IVec ⟨4, ![n0, n1, n2, n3]⟩ 32) (init : IVec u 32) (hi : init (Shape.Idx.first hu) = 0#32) (k : Fin n0)
    (hs : ∑ i : Fin n1 × Fin n2 × Fin n3, (x (ix4 k i.1 i.2.1 i.2.2)).toNat < 2 ^ 32) :
    (Host.reduce IntOp.addi x init h hu (ix1 k)).toNat = ∑ i : Fin n1 × Fin n2 × Fin n3, (x (ix4 k i.1 i.2.1 i.2.2)).toNat := by
  have e : ∑ i ∈ Finset.univ.filter (fun i => h.drop i = ix1 k), (x i).toNat
      = ∑ i : Fin n1 × Fin n2 × Fin n3, (x (ix4 k i.1 i.2.1 i.2.2)).toNat :=
    Finset.sum_filter_eq_sum_of_fiber _ (fun p : Fin n1 × Fin n2 × Fin n3 => ix4 k p.1 p.2.1 p.2.2)
      (fun p q e => Prod.ext (congrFun e 1) (Prod.ext (congrFun e 2) (congrFun e 3))) (drop_axes123 h k) _
  rw [Host.reduce_eq_fold, hi, StableHlo.Predicate.toNat_fold_addi _ _ (by rw [e]; exact hs), e]

end Cert.Reduces

end
-- ==== Proof.RefPixel.lean ====
/- What the reference computes of one pixel: its logits less their maximum, and its gradient. -/
module

public import proofs.«01_k».proof.Proof.Reduces
public import proofs.«01_k».proof.Proof.Gen.ReferenceIdeal.Run

@[expose] public section

noncomputable section

namespace Cert.RefPixel

open Idealize.ShloMosaic Idealize.ShloMosaic.TcCoe Idealize.SL.Sem
open Cert.ReferenceIdeal Cert.ReferenceIdeal.Gen Cert.ReferenceIdeal.Value Cert.Image Cert.Consts

variable (V0 : Valuation τ sig (Elt Ideal))

/-- The logits. -/
def A : Logits := fun b ch r w => (V0 (Proc.devRef .tc main_arg0) : FVec Ideal S8x19x512x512 .f32) (ix4 b ch r w)

/-- The labels. -/
def T : Targets := fun b r w => (V0 (Proc.devRef .tc main_arg1) : IVec S8x512x512 32) (ix3 b r w)

/-- The greatest of a pixel's logits, as the reference reduces them. -/
theorem greatest_apply (b : Fin 8) (r w : Fin 512) :
    Host.reduce (FloatOps.maximumf (F := Ideal) (φ := .f32)) (V0 (Proc.devRef .tc main_arg0) : FVec Ideal S8x19x512x512 .f32)
      (constant S_ .f32 0xFF800000#32) reducesTo_S8x19x512x512_S8x512x512_d1 h_S_ (ix3 b r w)
      = Finset.univ.fold max (⊥ : EReal) (lg (A V0) (b, r, w)) := by
  refine (Reduces.max_axis1 _ _ _ _ b r w).trans ?_
  rw [show (constant (F := Ideal) S_ .f32 0xFF800000#32 (Shape.Idx.first h_S_) : EReal) = ⊥ from bottom]
  rfl

/-- A difference with a spread maximum, read at an index. -/
theorem sub_spread (x : FVec Ideal S8x19x512x512 .f32) (y : FVec Ideal S8x512x512 .f32) (b : Fin 8) (ch : Fin 19) (r w : Fin 512) :
    subf x (broadcastInDim S8x19x512x512 ![0, 1, 2, 3] bcast_S8x1x512x512_S8x19x512x512_0_1_2_3 (broadcastInDim S8x1x512x512 ![0, 2, 3] bcast_S8x512x512_S8x1x512x512_0_2_3
      (maximumf (broadcastInDim S8x512x512 ![] bcast_S_S8x512x512 (constant S_ .f32 0xFF800000#32)) y))) (ix4 b ch r w)
      = (x (ix4 b ch r w) : EReal) - y (ix3 b r w) := by
  pointwise
  rw [bottom, max_eq_right bot_le]

/-- The logits less the greatest of them. -/
theorem shifted_apply (b : Fin 8) (ch : Fin 19) (r w : Fin 512) : (res_main_call9_v5 V0 : FVec Ideal S8x19x512x512 .f32) (ix4 b ch r w)
    = (A V0 b ch r w : EReal) - Finset.univ.fold max ⊥ (lg (A V0) (b, r, w)) :=
  (sub_spread _ _ b ch r w).trans (congrArg (fun z : EReal => (A V0 b ch r w : EReal) - z) (greatest_apply V0 b r w))

/-- Their exponentials. -/
theorem shifted_exp (b : Fin 8) (ch : Fin 19) (r w : Fin 512) : (res_main_v6 V0 : FVec Ideal S8x19x512x512 .f32) (ix4 b ch r w)
    = Ideal.exp ((A V0 b ch r w : EReal) - Finset.univ.fold max ⊥ (lg (A V0) (b, r, w))) :=
  congrArg Ideal.exp (shifted_apply V0 b ch r w)

/-- No class is numbered minus one. -/
theorem class_ne (c : Fin 19) : BitVec.ofNat 32 c.val ≠ 4294967295#32 := by
  intro e
  have e' := congrArg BitVec.toNat e
  simp only [BitVec.toNat_ofNat] at e'
  have := c.isLt
  omega

/-- A one-bit comparison of words, as a number. -/
theorem bit_eq {w : ℕ} (x y : BitVec w) : (FloatOps.uitofp (F := Ideal) .f32 (IntOp.cmpi .eq x y) : EReal) = if y = x then 1 else 0 := by
  rw [WordCmp.cmpi_eq_eq]
  by_cases h : x = y
  · rw [if_pos h.symm, decide_eq_true h]
    show ((BitVec.toNat 1#1 : ℝ) : EReal) = 1
    norm_num
  · rw [if_neg (fun e => h e.symm), decide_eq_false h]
    show ((BitVec.toNat 0#1 : ℝ) : EReal) = 0
    norm_num

/-- The gradient of a good pixel. -/
theorem gradient_apply (b : Fin 8) (r w : Fin 512) {c : Fin 19} {a : Fin 19 → ℝ} (g : Pixel.Good (lg (A V0) (b, r, w)) (lb (T V0) (b, r, w)) c a) :
    (res_main_v23 V0 : FVec Ideal S8x512x512 .f32) (ix3 b r w) = ((1 - a c / ∑ ch, a ch : ℝ) : EReal) := by
  unfold res_main_v23
  pointwise
  have ht : (V0 (Proc.devRef .tc main_arg1) : IVec S8x512x512 32) (ix3 b r w) = BitVec.ofNat 32 c.val := g.label
  obtain ⟨M, hM⟩ := g.max_real
  have he : IntOp.cmpi .eq (BitVec.ofNat 32 c.val) 4294967295#32 = 0#1 := by
    rw [WordCmp.cmpi_eq_eq, decide_eq_false (class_ne c)]
    rfl
  have hz : ∀ {α : Type} (u v : α), Scalar.select 0#1 u v = v := fun _ _ => rfl
  simp only [ht, he, hz, shifted_exp, hM, bit_eq]
  have hs : (∑ x : Fin 19, Ideal.div (Ideal.exp (A V0 b x r w - (M : EReal))) (∑ x : Fin 19, Ideal.exp (A V0 b x r w - (M : EReal)))
      * (if BitVec.ofNat 32 x.val = BitVec.ofNat 32 c.val then 1 else 0 : EReal)) = ((a c / ∑ ch, a ch : ℝ) : EReal) := by
    simp only [mul_ite, mul_one, mul_zero]
    rw [Pixel.num_class c fun x => Ideal.div (Ideal.exp (A V0 b x r w - (M : EReal))) (∑ x : Fin 19, Ideal.exp (A V0 b x r w - (M : EReal)))]
    exact g.softmax M c
  rw [hs]
  show max (((a c / ∑ ch, a ch : ℝ) : EReal) - 1) (-(((a c / ∑ ch, a ch : ℝ) : EReal) - 1)) = _
  rw [← EReal.coe_one, ← EReal.coe_sub, ← EReal.coe_neg, neg_sub]
  exact max_eq_right (EReal.coe_le_coe_iff.mpr (by have := g.inner.2.1; linarith))

/-- The class whose logarithm is taken at a good pixel is the label's. -/
theorem index_apply (b : Fin 8) (r w : Fin 512) (c : Fin 19) (hc : lb (T V0) (b, r, w) = BitVec.ofNat 32 c.val) :
    (res_main_call11_v5 V0 : IVec S8x1x512x512x1 32) (ix5 b 0 r w 0) = BitVec.ofNat 32 c.val := by
  unfold res_main_call11_v5 res_main_v106
  pointwise
  have ht : (V0 (Proc.devRef .tc main_arg1) : IVec S8x512x512 32) (ix3 b r w) = BitVec.ofNat 32 c.val := hc
  have hn : IntOp.cmpi .slt (BitVec.ofNat 32 c.val) 0#32 = 0#1 := by
    clear hc ht; revert c; decide
  have he : IntOp.cmpi .eq (BitVec.ofNat 32 c.val) 4294967295#32 = 0#1 := by
    clear hc ht hn; revert c; decide
  rw [ht, he]
  show Scalar.select (IntOp.cmpi .slt (BitVec.ofNat 32 c.val) 0#32) _ (BitVec.ofNat 32 c.val) = _
  rw [hn]
  rfl

end Cert.RefPixel

end
-- ==== Proof.RefBins.lean ====
/- The reference's histogram of the gradients, and the bin each gradient's weight is looked up in. -/
module

public import proofs.«01_k».proof.Proof.RefPixel

@[expose] public section

noncomputable section

namespace Cert.RefBins

open Idealize.ShloMosaic Idealize.ShloMosaic.TcCoe Idealize.SL.Sem
open Cert.ReferenceIdeal Cert.ReferenceIdeal.Gen Cert.ReferenceIdeal.Value Cert.Image Cert.Consts Cert.RefPixel

variable (V0 : Valuation τ sig (Elt Ideal))

/-- The gradient of every pixel, when all are good. -/
theorem gradient (hg : AllGood (A V0) (T V0)) (i : Px) :
    (res_main_v23 V0 : FVec Ideal S8x512x512 .f32) (ix3 i.1 i.2.1 i.2.2) = ((1 - p (A V0) (T V0) i : ℝ) : EReal) := by
  obtain ⟨c, a, g⟩ := hg i
  rw [p_eq g]
  exact gradient_apply V0 i.1 i.2.1 i.2.2 g

/-- A word of a natural number below two to the thirty-first, as a number. -/
theorem word_real (v : BitVec 32) (n : ℕ) (hv : v.toNat = n) (hn : n < 2 ^ 31) : (FloatOps.sitofp (F := Ideal) .f32 v : EReal) = ((n : ℝ) : EReal) := by
  show ((v.toInt : ℝ) : EReal) = _
  rw [BitVec.toInt_eq_toNat_of_lt (by omega), hv]
  norm_num

/-- Where each gradient matches each bin of the histogram, as words. -/
def matchWords (z : FVec Ideal S8x512x512 .f32) : IVec S30x8x512x512 32 :=
  extui 32 (andi (broadcastInDim S30x8x512x512 ![0, 1, 2, 3] bcast_S1x8x512x512_S30x8x512x512_0_1_2_3 (broadcastInDim S1x8x512x512 ![1, 2, 3] bcast_S8x512x512_S1x8x512x512_1_2_3
    (andi (cmpf .oge z (broadcastInDim S8x512x512 ![] bcast_S_S8x512x512 (constant S_ .f32 0x00000000#32))) (cmpf .ole z (broadcastInDim S8x512x512 ![] bcast_S_S8x512x512 (constant S_ .f32 0x3F800000#32))))))
    (cmpi .eq (broadcastInDim S30x8x512x512 ![0, 1, 2, 3] bcast_S1x8x512x512_S30x8x512x512_0_1_2_3 (broadcastInDim S1x8x512x512 ![1, 2, 3] bcast_S8x512x512_S1x8x512x512_1_2_3
      (minsi (broadcastInDim S8x512x512 ![] bcast_S_S8x512x512 (id (constantI S_ 32 29#32))) (maxsi (broadcastInDim S8x512x512 ![] bcast_S_S8x512x512 (id (constantI S_ 32 0#32)))
        (fptosi 32 (Host.floor (mulf z (broadcastInDim S8x512x512 ![] bcast_S_S8x512x512 (constant S_ .f32 0x41F00000#32)))))))))
      (broadcastInDim S30x8x512x512 ![0, 1, 2, 3] bcast_S30x1x1x1_S30x8x512x512_0_1_2_3 (broadcastInDim S30x1x1x1 ![0] bcast_S30_S30x1x1x1_0 (iotaInDim S30 32 0))))) natLt_1_32

/-- Where each gradient lies above each edge, as words. -/
def above (z : FVec Ideal S8x512x512 .f32) : IVec S31x8x512x512 32 :=
  extui 32 (cmpf .olt (broadcastInDim S31x8x512x512 ![0, 1, 2, 3] bcast_S31x1x1x1_S31x8x512x512_0_1_2_3 (broadcastInDim S31x1x1x1 ![0] bcast_S31_S31x1x1x1_0
    (select (cmpi .eq (iotaInDim S31 32 0) (broadcastInDim S31 ![] bcast_S_S31 (constantI S_ 32 30#32)))
      (addf (Host.divf (sitofp .f32 (iotaInDim S31 32 0)) (broadcastInDim S31 ![] bcast_S_S31 (constant S_ .f32 0x41F00000#32))) (broadcastInDim S31 ![] bcast_S_S31 (constant S_ .f32 0x3A83126F#32)))
      (Host.divf (sitofp .f32 (iotaInDim S31 32 0)) (broadcastInDim S31 ![] bcast_S_S31 (constant S_ .f32 0x41F00000#32))))))
    (broadcastInDim S31x8x512x512 ![0, 1, 2, 3] bcast_S1x8x512x512_S31x8x512x512_0_1_2_3 (broadcastInDim S1x8x512x512 ![1, 2, 3] bcast_S8x512x512_S1x8x512x512_1_2_3 z))) natLt_1_32

/-- A bin's number fits the range it is clipped to. -/
theorem clip_eq (n : ℕ) (hn : n < 30) : IntOp.minsi 29#32 (IntOp.maxsi 0#32 (BitVec.ofNat 32 n)) = BitVec.ofNat 32 n :=
  (by decide : ∀ n : Fin 30, IntOp.minsi 29#32 (IntOp.maxsi 0#32 (BitVec.ofNat 32 n.val)) = BitVec.ofNat 32 n.val) ⟨n, hn⟩

/-- The bin of a good gradient, as the reference's rounding down finds it. -/
theorem floor_word (p : ℝ) (hp : Pixel.Inner p) :
    (FloatOps.fptosi (F := Ideal) (φ := .f32) 32 (Ideal.liftRound Int.floor (((1 - p : ℝ) : EReal) * ((30 : ℝ) : EReal))) : BitVec 32) = BitVec.ofNat 32 (Pixel.bin p) := by
  have hb := hp.bin_lt
  rw [← EReal.coe_mul]
  show Ideal.fptosi 32 (((⌊(1 - p) * 30⌋ : ℝ) : ℝ) : EReal) = _
  rw [hp.floor_eq, Ideal.fptosi, Ideal.toIntClamped_coe, if_pos (by positivity), Int.floor_intCast]
  have e : max (-((2 ^ (32 - 1) : ℕ) : ℤ)) (min (((2 ^ (32 - 1) : ℕ) : ℤ) - 1) ((Pixel.bin p : ℕ) : ℤ)) = ((Pixel.bin p : ℕ) : ℤ) := by
    norm_num
    omega
  rw [e]
  exact BitVec.ofInt_natCast 32 _

/-- Words below thirty-two agree only when the numbers do. -/
theorem word_inj (m n : ℕ) (hm : m < 32) (hn : n < 32) : BitVec.ofNat 32 m = BitVec.ofNat 32 n ↔ m = n := by
  constructor
  · intro e
    have e' := congrArg BitVec.toNat e
    simp only [BitVec.toNat_ofNat] at e'
    omega
  · rintro rfl
    rfl

/-- A good gradient matches its own bin only. -/
theorem matches_apply (z : FVec Ideal S8x512x512 .f32) (k : Fin 30) (b : Fin 8) (r w : Fin 512) (p : ℝ) (hp : Pixel.Inner p)
    (hz : (z (ix3 b r w) : EReal) = ((1 - p : ℝ) : EReal)) : (matchWords z (ix4 k b r w)).toNat = if Pixel.bin p = k.val then 1 else 0 := by
  unfold matchWords
  pointwise
  have hb := hp.bin_lt
  have h0 : (0 : EReal) ≤ ((1 - p : ℝ) : EReal) := by
    rw [← EReal.coe_zero]
    exact EReal.coe_le_coe_iff.mpr (by have := hp.2.1; linarith)
  have h1 : ((1 - p : ℝ) : EReal) ≤ (1 : EReal) := by
    rw [← EReal.coe_one]
    exact EReal.coe_le_coe_iff.mpr (by have := hp.1; linarith)
  rw [hz, thirty, floor_word p hp, decide_eq_true h0, decide_eq_true h1]
  show (BitVec.setWidth 32 (IntOp.andi (IntOp.andi (BitVec.ofBool true) (BitVec.ofBool true))
    (IntOp.cmpi .eq (IntOp.minsi 29#32 (IntOp.maxsi 0#32 (BitVec.ofNat 32 (Pixel.bin p)))) (BitVec.ofNat 32 k.val)))).toNat = _
  rw [clip_eq _ hb, WordCmp.cmpi_eq_eq]
  by_cases h : Pixel.bin p = k.val
  · rw [if_pos h, h, decide_eq_true rfl]
    rfl
  · rw [if_neg h, decide_eq_false (fun e => h ((word_inj _ _ (by omega) (by have := k.isLt; omega)).mp e))]
    rfl

/-- An edge, as the reference divides it. -/
theorem edge_eq (k : Fin 31) : Ideal.div (FloatOps.sitofp (F := Ideal) .f32 (BitVec.ofNat 32 k.val) : EReal) ((30 : ℝ) : EReal) = ((k.val / 30 : ℝ) : EReal) := by
  rw [word_real _ k.val (by rw [BitVec.toNat_ofNat]; have := k.isLt; omega) (by have := k.isLt; omega)]
  exact Pixel.div_coe _ _ (by norm_num)

/-- A good gradient is above the edges of its own bin and of those before it. -/
theorem above_apply (z : FVec Ideal S8x512x512 .f32) (k : Fin 31) (b : Fin 8) (r w : Fin 512) (p : ℝ) (hp : Pixel.Inner p)
    (hz : (z (ix3 b r w) : EReal) = ((1 - p : ℝ) : EReal)) : (above z (ix4 k b r w)).toNat = if k.val ≤ Pixel.bin p then 1 else 0 := by
  unfold above
  pointwise
  have hb := hp.bin_lt
  rw [hz, thirty, thousandth_eq, edge_eq, WordCmp.cmpi_eq_eq]
  have key : (if BitVec.ofNat 32 k.val = 30#32 then ((k.val / 30 : ℝ) : EReal) + ((thousandth : ℝ) : EReal) else ((k.val / 30 : ℝ) : EReal)) < ((1 - p : ℝ) : EReal)
      ↔ k.val ≤ Pixel.bin p := by
    by_cases h : k.val = 30
    · rw [if_pos (by rw [h]), ← EReal.coe_add, EReal.coe_lt_coe_iff, h]
      refine iff_of_false ?_ (by omega)
      have := thousandth_pos
      have := hp.1
      norm_num
      linarith
    · rw [if_neg (fun e => h ((word_inj _ 30 (by have := k.isLt; omega) (by omega)).mp e)), EReal.coe_lt_coe_iff]
      exact hp.lt_iff k.val
  have hs : ∀ u v : EReal, Scalar.select (BitVec.ofBool (decide (BitVec.ofNat 32 k.val = 30#32))) u v = if BitVec.ofNat 32 k.val = 30#32 then u else v := by
    intro u v
    rw [← WordCmp.cmpi_eq_eq]
    exact KBlock.select_eq _ _ _ _
  rw [hs]
  by_cases h : k.val ≤ Pixel.bin p
  · rw [if_pos h, decide_eq_true (key.mpr h)]
    rfl
  · rw [if_neg h, decide_eq_false (fun e => h (key.mp e))]
    rfl

/-- No more pixels fall in a bin than there are. -/
theorem count_le (K : Px → ℕ) (k : ℕ) : ∑ i : Px, (if K i = k then 1 else 0) ≤ 2097152 := by
  calc ∑ i : Px, (if K i = k then 1 else 0) ≤ ∑ _i : Px, 1 := Finset.sum_le_sum fun i _ => by split <;> omega
    _ = 2097152 := by simp [Px, Fintype.card_prod]

/-- The histogram. -/
theorem histogram (hg : AllGood (A V0) (T V0)) (k : Fin 30) :
    (res_main_v45 V0 : FVec Ideal S30 .f32) (ix1 k) = (Model.count (K (A V0) (T V0)) k.val : EReal) := by
  have hm : ∀ i : Px, (matchWords (res_main_v23 V0) (ix4 k i.1 i.2.1 i.2.2)).toNat = if K (A V0) (T V0) i = k.val then 1 else 0 :=
    fun i => matches_apply _ k i.1 i.2.1 i.2.2 _ (hg.inner i) (gradient V0 hg i)
  have hs : ∑ i : Px, (matchWords (res_main_v23 V0) (ix4 k i.1 i.2.1 i.2.2)).toNat = ∑ i : Px, (if K (A V0) (T V0) i = k.val then 1 else 0) :=
    Finset.sum_congr rfl fun i _ => hm i
  have hl := count_le (K (A V0) (T V0)) k.val
  have hw := Reduces.sum_axes123 reducesTo_S30x8x512x512_S30_d1_2_3 h_S_ (matchWords (res_main_v23 V0)) (constantI S_ 32 0#32) rfl k (by rw [hs]; omega)
  refine (word_real _ _ (hw.trans hs) (by omega)).trans ?_
  unfold Model.count
  push_cast
  rfl

/-- The number of edges below each gradient. -/
theorem edges_below (hg : AllGood (A V0) (T V0)) (i : Px) :
    (res_main_v65 V0 : IVec S8x512x512 32) (ix3 i.1 i.2.1 i.2.2) = BitVec.ofNat 32 (K (A V0) (T V0) i + 1) := by
  have hb := hg.bin_lt i
  have ha : ∀ k : Fin 31, (above (res_main_v23 V0) (ix4 k i.1 i.2.1 i.2.2)).toNat = if k.val ≤ K (A V0) (T V0) i then 1 else 0 :=
    fun k => above_apply _ k i.1 i.2.1 i.2.2 _ (hg.inner i) (gradient V0 hg i)
  have hs : ∑ k : Fin 31, (above (res_main_v23 V0) (ix4 k i.1 i.2.1 i.2.2)).toNat = K (A V0) (T V0) i + 1 := by
    rw [Finset.sum_congr rfl fun k _ => ha k]
    exact (by decide : ∀ n : Fin 30, ∑ k : Fin 31, (if k.val ≤ n.val then 1 else 0) = n.val + 1) ⟨_, hb⟩
  have hw := Reduces.sum_axis0 reducesTo_S31x8x512x512_S8x512x512_d0 h_S_ (above (res_main_v23 V0)) (constantI S_ 32 0#32) rfl i.1 i.2.1 i.2.2 (by rw [hs]; omega)
  refine BitVec.eq_of_toNat_eq ((hw.trans hs).trans ?_)
  rw [BitVec.toNat_ofNat]
  omega

/-- The bin whose weight is looked up. -/
theorem place_apply (hg : AllGood (A V0) (T V0)) (i : Px) :
    (res_main_v88 V0 : IVec S8x512x512 32) (ix3 i.1 i.2.1 i.2.2) = BitVec.ofNat 32 (K (A V0) (T V0) i) := by
  have e := edges_below V0 hg i
  unfold res_main_v88
  generalize res_main_v65 V0 = y at e ⊢
  pointwise
  rw [e]
  show IntOp.minsi 29#32 (IntOp.maxsi 0#32 (BitVec.ofNat 32 (K (A V0) (T V0) i + 1) - 1#32)) = _
  have hb := hg.bin_lt i
  have h1 : BitVec.ofNat 32 (K (A V0) (T V0) i + 1) - 1#32 = BitVec.ofNat 32 (K (A V0) (T V0) i) :=
    (by decide : ∀ n : Fin 30, BitVec.ofNat 32 (n.val + 1) - 1#32 = BitVec.ofNat 32 n.val) ⟨_, hb⟩
  rw [h1, clip_eq _ hb]

end Cert.RefBins

end
-- ==== Proof.RefWeights.lean ====
/- The weights of the reference's bins: the smoothed histogram, its normalization, and the greatest weight. -/
module

public import proofs.«01_k».proof.Proof.RefBins

@[expose] public section

noncomputable section

namespace Cert.RefWeights

open Idealize.ShloMosaic Idealize.ShloMosaic.TcCoe Idealize.SL.Sem
open Cert.ReferenceIdeal Cert.ReferenceIdeal.Gen Cert.ReferenceIdeal.Value Cert.Image Cert.Consts Cert.RefPixel

/-- A histogram, averaged with its reversal and taken at the moving average's rate. -/
def smooth (y : FVec Ideal S30 .f32) : FVec Ideal S30 .f32 :=
  addf (mulf (broadcastInDim S30 ![] bcast_S_S30 (constant S_ .f32 0x3F7D70A4#32)) (broadcastInDim S30 ![] bcast_S_S30 (constant S_ .f32 0x00000000#32)))
    (mulf (broadcastInDim S30 ![] bcast_S_S30 (constant S_ .f32 0x3C23D70A#32)) (mulf (addf y (Host.reverse [0] y)) (broadcastInDim S30 ![] bcast_S_S30 (constant S_ .f32 0x3F000000#32))))

/-- The smoothed histogram, read at a bin. -/
theorem smooth_apply (y : FVec Ideal S30 .f32) (h : ℕ → ℝ) (hy : ∀ k : Fin 30, (y (ix1 k) : EReal) = (h k.val : EReal)) (k : Fin 30) :
    smooth y (ix1 k) = (Model.accum h k.val : EReal) := by
  unfold smooth
  pointwise
  have hv : k.rev.val = 29 - k.val := by rw [Fin.val_rev]; omega
  rw [mul_zero, zero_add]
  show (Ideal.ofBits .f32 1008981770#32 : EReal) * (((y (ix1 k) : EReal) + y (ix1 k.rev)) * Ideal.ofBits .f32 1056964608#32) = _
  rw [hy k, hy k.rev, hv, hundredth_eq, half, ← EReal.coe_add, ← EReal.coe_mul, ← EReal.coe_mul]
  refine congrArg ((↑) : ℝ → EReal) ?_
  unfold Model.accum
  ring

/-- The weights of a smoothed histogram. -/
def weights (y : FVec Ideal S30 .f32) : FVec Ideal S30 .f32 :=
  select (cmpf .une y (broadcastInDim S30 ![] bcast_S_S30 (constant S_ .f32 0x00000000#32)))
    (subf (broadcastInDim S30 ![] bcast_S_S30 (constant S_ .f32 0x3F800000#32)) (Host.divf y (broadcastInDim S30 ![] bcast_S_S30
      (addf (Host.reduceAdd y (constant S_ .f32 0x00000000#32) reducesTo_S30_S_d0 h_S_) (constant S_ .f32 0x33D6BF95#32)))))
    (broadcastInDim S30 ![] bcast_S_S30 (constant S_ .f32 0x00000000#32))

/-- The weights, read at a bin. -/
theorem weights_apply (y : FVec Ideal S30 .f32) (h : ℕ → ℝ) (hh : ∀ k, 0 ≤ h k) (hy : ∀ k : Fin 30, (y (ix1 k) : EReal) = (Model.accum h k.val : EReal)) (k : Fin 30) :
    weights y (ix1 k) = (Model.weight h k.val : EReal) := by
  unfold weights
  pointwise
  have hs : (∑ k : Fin 30, (y (ix1 k) : EReal)) = ((∑ k ∈ Finset.range 30, Model.accum h k : ℝ) : EReal) := by
    simp only [hy]
    rw [Pixel.sum_coe, Fin.sum_univ_eq_sum_range (fun k => Model.accum h k) 30]
  rw [hs, hy k, tiny_eq, ← EReal.coe_add]
  unfold Model.weight
  by_cases e : Model.accum h k.val = 0
  · rw [if_pos e, e, if_neg (by simp)]
    rfl
  · rw [if_neg e, if_pos (by simpa using e)]
    show (1 : EReal) - Ideal.div (Model.accum h k.val : EReal) ((Model.total h : ℝ) : EReal) = _
    rw [Pixel.div_coe _ _ (Model.total_pos hh).ne', ← EReal.coe_one, ← EReal.coe_sub]

/-- The weights divided by the greatest of them. -/
def scaled (z : FVec Ideal S30 .f32) : FVec Ideal S30 .f32 :=
  Host.divf z (broadcastInDim S30 ![] bcast_S_S30 (addf (Host.reduce FloatOps.maximumf z (constant S_ .f32 0xFF800000#32) reducesTo_S30_S_d0 h_S_) (constant S_ .f32 0x33D6BF95#32)))

/-- The scaled weights, with the greatest weight given, read at a bin. -/
theorem div_spread (z : FVec Ideal S30 .f32) (y : FVec Ideal S_ .f32) (k : Fin 30) :
    Host.divf z (broadcastInDim S30 ![] bcast_S_S30 (addf y (constant S_ .f32 0x33D6BF95#32))) (ix1 k) = Ideal.div (z (ix1 k)) ((y ix0 : EReal) + ((tiny : ℝ) : EReal)) := by
  pointwise
  rw [tiny_eq]

/-- The scaled weights, read at a bin. -/
theorem scaled_apply (z : FVec Ideal S30 .f32) (h : ℕ → ℝ) (hh : ∀ k, 0 ≤ h k) (hz : ∀ k : Fin 30, (z (ix1 k) : EReal) = (Model.weight h k.val : EReal)) (k : Fin 30) :
    scaled z (ix1 k) = ((Model.weight h k.val / Model.top h : ℝ) : EReal) := by
  refine (div_spread z _ k).trans ?_
  have hm : Host.reduce (FloatOps.maximumf (F := Ideal) (φ := .f32)) z (constant S_ .f32 0xFF800000#32) reducesTo_S30_S_d0 h_S_ ix0
      = ((Model.greatest (Model.weight h) 29 : ℝ) : EReal) := by
    refine (Reduces.max_axis0 reducesTo_S30_S_d0 h_S_ z _).trans ?_
    rw [show (constant (F := Ideal) S_ .f32 0xFF800000#32 (Shape.Idx.first h_S_) : EReal) = ⊥ from bottom]
    simp only [hz]
    exact Model.fold_greatest _ 29
  rw [hm, hz, ← EReal.coe_add]
  exact Pixel.div_coe _ _ (Model.top_pos hh).ne'

variable (V0 : Valuation τ sig (Elt Ideal))

/-- The scaled weights of the image. -/
theorem image_weights (hg : AllGood (A V0) (T V0)) (k : Fin 30) :
    scaled (res_main_v81 V0) (ix1 k)
      = ((Model.weight (Model.count (K (A V0) (T V0))) k.val / Model.top (Model.count (K (A V0) (T V0))) : ℝ) : EReal) :=
  have hh := Model.count_nonneg (K (A V0) (T V0))
  scaled_apply _ _ hh (fun k => weights_apply (res_main_v71 V0) _ hh (fun k => smooth_apply (res_main_v45 V0) _ (RefBins.histogram V0 hg) k) k) k

end Cert.RefWeights

end
-- ==== Proof.Gathers.lean ====
/- The reference's two look-ups by index arrays, read at an index: a vector at one index per pixel, and a stack of
   planes at one plane per pixel. -/
module

public import proofs.«01_k».proof.Proof.RefWeights

@[expose] public section

noncomputable section

namespace Cert.Gathers

open Idealize.ShloMosaic
open Cert.ReferenceIdeal Cert.ReferenceIdeal.Gen

variable {α : Type}

/-- The look-up in a vector: the entry at the pixel's index, read signed and kept in range. -/
theorem bins_apply (x : S30.Idx → α) (idx : IVec S8x512x512x1 32) (b : Fin 8) (r w : Fin 512) (n : ℕ) (hn : n < 30)
    (hi : idx (ix4 b r w 0) = BitVec.ofNat 32 n) :
    Host.gather gather_S30_S8x512x512x1_S8x512x512_n_0_n_n_0_3_1 x idx (ix3 b r w) = x (ix1 ⟨n, hn⟩) := by
  unfold Host.gather
  refine congrArg x (funext fun a => ?_)
  obtain rfl : a = 0 := Subsingleton.elim _ _
  refine Fin.ext ?_
  show GatherDims.start gather_S30_S8x512x512x1_S8x512x512_n_0_n_n_0_3_1 (ix3 b r w) idx 0
    + GatherDims.batchCoord gather_S30_S8x512x512x1_S8x512x512_n_0_n_n_0_3_1 (ix3 b r w) 0
    + GatherDims.offCoord gather_S30_S8x512x512x1_S8x512x512_n_0_n_n_0_3_1 (ix3 b r w) 0 = n
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S30_S8x512x512x1_S8x512x512_n_0_n_n_0_3_1).startIndexMap from List.mem_singleton.mpr rfl)]
  have hs : (gather_S30_S8x512x512x1_S8x512x512_n_0_n_n_0_3_1).siIdx (ix3 b r w) ⟨List.idxOf (0 : Fin 1) (gather_S30_S8x512x512x1_S8x512x512_n_0_n_n_0_3_1).startIndexMap,
      List.idxOf_lt_length_iff.2 (List.mem_singleton.mpr rfl)⟩ = ix4 b r w 0 := by
    funext d
    refine Fin.ext ?_
    match d with
    | ⟨0, _⟩ => rfl
    | ⟨1, _⟩ => rfl
    | ⟨2, _⟩ => rfl
    | ⟨3, _⟩ => rfl
  rw [hs, hi]
  show min (BitVec.ofNat 32 n).toInt.toNat (30 - 1) = n
  rw [BitVec.toInt_eq_toNat_of_lt (by rw [BitVec.toNat_ofNat]; omega), BitVec.toNat_ofNat]
  omega

/-- The look-up in a stack of planes: the entry of the pixel's plane, read signed and kept in range, at the pixel. -/
theorem planes_apply (x : S8x19x512x512.Idx → α) (idx : IVec S8x1x512x512x1 32) (b : Fin 8) (r w : Fin 512) (n : ℕ) (hn : n < 19)
    (hi : idx (ix5 b 0 r w 0) = BitVec.ofNat 32 n) :
    Host.gather gather_S8x19x512x512_S8x1x512x512x1_S8x1x512x512_n_1_023_023_1_4_1111 x idx (ix4 b 0 r w) = x (ix4 b ⟨n, hn⟩ r w) := by
  unfold Host.gather
  refine congrArg x (funext fun a => ?_)
  refine Fin.ext ?_
  show GatherDims.start gather_S8x19x512x512_S8x1x512x512x1_S8x1x512x512_n_1_023_023_1_4_1111 (ix4 b 0 r w) idx a
    + GatherDims.batchCoord gather_S8x19x512x512_S8x1x512x512x1_S8x1x512x512_n_1_023_023_1_4_1111 (ix4 b 0 r w) a
    + GatherDims.offCoord gather_S8x19x512x512_S8x1x512x512x1_S8x1x512x512_n_1_023_023_1_4_1111 (ix4 b 0 r w) a = _
  have batched : ∀ a : Fin 4, a ∈ ([0, 2, 3] : List (Fin 4)) →
      GatherDims.start gather_S8x19x512x512_S8x1x512x512x1_S8x1x512x512_n_1_023_023_1_4_1111 (ix4 b 0 r w) idx a = 0
      ∧ GatherDims.offCoord gather_S8x19x512x512_S8x1x512x512x1_S8x1x512x512_n_1_023_023_1_4_1111 (ix4 b 0 r w) a = 0 := fun a h =>
    ⟨GatherDims.start_batching _ _ _ _ h, GatherDims.offCoord_eq_zero _ _ _ (fun k => ((GatherDims.mem_sKept _ _).mp k).2 h)⟩
  match a with
  | ⟨0, _⟩ =>
    have m : (0 : Fin 4) ∈ ([0, 2, 3] : List (Fin 4)) := by decide
    refine (congrArg₂ (· + ·) (congrArg (· + _) (batched 0 m).1) (batched 0 m).2).trans ?_
    rw [Nat.zero_add, Nat.add_zero]
    unfold GatherDims.batchCoord
    exact (dif_pos m).trans rfl
  | ⟨1, _⟩ =>
    show GatherDims.start gather_S8x19x512x512_S8x1x512x512x1_S8x1x512x512_n_1_023_023_1_4_1111 (ix4 b 0 r w) idx 1
      + GatherDims.batchCoord gather_S8x19x512x512_S8x1x512x512x1_S8x1x512x512_n_1_023_023_1_4_1111 (ix4 b 0 r w) 1
      + GatherDims.offCoord gather_S8x19x512x512_S8x1x512x512x1_S8x1x512x512_n_1_023_023_1_4_1111 (ix4 b 0 r w) 1 = n
    rw [GatherDims.batchCoord_eq_zero _ _ _ (show (1 : Fin 4) ∉ ([0, 2, 3] : List (Fin 4)) by decide),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (gather_S8x19x512x512_S8x1x512x512x1_S8x1x512x512_n_1_023_023_1_4_1111).startIndexMap from List.mem_singleton.mpr rfl)]
    have hs : (gather_S8x19x512x512_S8x1x512x512x1_S8x1x512x512_n_1_023_023_1_4_1111).siIdx (ix4 b 0 r w)
        ⟨List.idxOf (1 : Fin 4) (gather_S8x19x512x512_S8x1x512x512x1_S8x1x512x512_n_1_023_023_1_4_1111).startIndexMap,
        List.idxOf_lt_length_iff.2 (List.mem_singleton.mpr rfl)⟩ = ix5 b 0 r w 0 := by
      funext d
      refine Fin.ext ?_
      match d with
      | ⟨0, _⟩ => rfl
      | ⟨1, _⟩ => rfl
      | ⟨2, _⟩ => rfl
      | ⟨3, _⟩ => rfl
      | ⟨4, _⟩ => rfl
    rw [hs, hi]
    show min (BitVec.ofNat 32 n).toInt.toNat (19 - 1) = n
    rw [BitVec.toInt_eq_toNat_of_lt (by rw [BitVec.toNat_ofNat]; omega), BitVec.toNat_ofNat]
    omega
  | ⟨2, _⟩ =>
    have m : (2 : Fin 4) ∈ ([0, 2, 3] : List (Fin 4)) := by decide
    refine (congrArg₂ (· + ·) (congrArg (· + _) (batched 2 m).1) (batched 2 m).2).trans ?_
    rw [Nat.zero_add, Nat.add_zero]
    unfold GatherDims.batchCoord
    exact (dif_pos m).trans rfl
  | ⟨3, _⟩ =>
    have m : (3 : Fin 4) ∈ ([0, 2, 3] : List (Fin 4)) := by decide
    refine (congrArg₂ (· + ·) (congrArg (· + _) (batched 3 m).1) (batched 3 m).2).trans ?_
    rw [Nat.zero_add, Nat.add_zero]
    unfold GatherDims.batchCoord
    exact (dif_pos m).trans rfl

end Cert.Gathers

end
-- ==== Proof.RefValue.lean ====
/- The reference's loss: each pixel's term, their mean, and its closed form. -/
module

public import proofs.«01_k».proof.Proof.Gathers

@[expose] public section

noncomputable section

namespace Cert.RefValue

open Idealize.ShloMosaic Idealize.ShloMosaic.TcCoe Idealize.SL.Sem
open Cert.ReferenceIdeal Cert.ReferenceIdeal.Gen Cert.ReferenceIdeal.Value Cert.Image Cert.Consts Cert.RefPixel

/-- The logarithm of the softmax of shifted logits. -/
def logSoft (x : FVec Ideal S8x19x512x512 .f32) : FVec Ideal S8x19x512x512 .f32 :=
  subf x (broadcastInDim S8x19x512x512 ![0, 1, 2, 3] bcast_S8x1x512x512_S8x19x512x512_0_1_2_3 (Host.log (broadcastInDim S8x1x512x512 ![0, 2, 3] bcast_S8x512x512_S8x1x512x512_0_2_3
    (Host.reduceAdd (Host.exp x) (constant S_ .f32 0x00000000#32) reducesTo_S8x19x512x512_S8x512x512_d1 h_S_))))

/-- It, read at an index. -/
theorem logSoft_apply (x : FVec Ideal S8x19x512x512 .f32) (b : Fin 8) (ch : Fin 19) (r w : Fin 512) :
    logSoft x (ix4 b ch r w) = (x (ix4 b ch r w) : EReal) - Ideal.log (∑ c : Fin 19, Ideal.exp (x (ix4 b c r w))) := by
  unfold logSoft
  pointwise

/-- Where an index array is in range. -/
def inRange (idx : IVec S8x1x512x512x1 32) : IVec S8x1x512x512x1 1 :=
  andi (cmpi .sge idx (broadcastInDim S8x1x512x512x1 ![] bcast_S_S8x1x512x512x1 (constantI S_ 32 0#32)))
    (cmpi .sle idx (broadcastInDim S8x1x512x512x1 ![0, 1, 2, 3, 4] bcast_S1x1x1x1x1_S8x1x512x512x1_0_1_2_3_4 (broadcastInDim S1x1x1x1x1 ![4] bcast_S1_S1x1x1x1x1_4 (constantI S1 32 18#32))))

/-- A class is in range. -/
theorem inRange_apply (idx : IVec S8x1x512x512x1 32) (b : Fin 8) (r w : Fin 512) (c : Fin 19) (hi : idx (ix5 b 0 r w 0) = BitVec.ofNat 32 c.val) :
    Host.reduce IntOp.andi (inRange idx) (constantI S_ 1 1#1) reducesTo_S8x1x512x512x1_S8x1x512x512_d4 h_S_ (ix4 b 0 r w) = 1#1 := by
  refine (Reduces.and_axis4 reducesTo_S8x1x512x512x1_S8x1x512x512_d4 h_S_ (inRange idx) (constantI S_ 1 1#1) b 0 r w).trans ?_
  have e : inRange idx (ix5 b 0 r w 0) = 1#1 := by
    unfold inRange
    pointwise
    rw [hi]
    clear hi
    revert c
    decide
  rw [Finset.univ_unique, Finset.fold_singleton]
  show IntOp.andi (inRange idx (ix5 b 0 r w 0)) 1#1 = 1#1
  rw [e]
  rfl

/-- The cross entropies, from the labels, the range check and the look-up. -/
def entropy (t : IVec S8x512x512 32) (m : IVec S8x1x512x512 1) (g : FVec Ideal S8x1x512x512 .f32) : FVec Ideal S8x512x512 .f32 :=
  select (cmpi .eq t (broadcastInDim S8x512x512 ![] bcast_S_S8x512x512 (constantI S_ 32 4294967295#32))) (broadcastInDim S8x512x512 ![] bcast_S_S8x512x512 (id (constant S_ .f32 0x00000000#32)))
    (Host.negf (shapeCast _ (select m g (broadcastInDim S8x1x512x512 ![] bcast_S_S8x1x512x512 (constant S_ .f32 0x7FC00000#32))) shapeCasts_S8x1x512x512_S8x512x512))

/-- The cross entropy of a pixel whose class is in range. -/
theorem entropy_apply (t : IVec S8x512x512 32) (m : IVec S8x1x512x512 1) (g : FVec Ideal S8x1x512x512 .f32) (b : Fin 8) (r w : Fin 512) (c : Fin 19)
    (ht : t (ix3 b r w) = BitVec.ofNat 32 c.val) (hm : m (ix4 b 0 r w) = 1#1) : entropy t m g (ix3 b r w) = -(g (ix4 b 0 r w) : EReal) := by
  unfold entropy
  pointwise
  have he : IntOp.cmpi .eq (BitVec.ofNat 32 c.val) 4294967295#32 = 0#1 := by
    rw [WordCmp.cmpi_eq_eq, decide_eq_false (class_ne c)]
    rfl
  rw [ht, hm, he]
  rfl

/-- The pixels' bins, with a bin counted from the end turned around, as an index array. -/
def wrapped (k : IVec S8x512x512 32) : IVec S8x512x512x1 32 :=
  broadcastInDim S8x512x512x1 ![0, 1, 2] bcast_S8x512x512_S8x512x512x1_0_1_2
    (select (cmpi .slt k (broadcastInDim S8x512x512 ![] bcast_S_S8x512x512 (constantI S_ 32 0#32))) (addi k (broadcastInDim S8x512x512 ![] bcast_S_S8x512x512 (constantI S_ 32 30#32))) k)

/-- A bin in range is kept. -/
theorem wrapped_apply (k : IVec S8x512x512 32) (b : Fin 8) (r w : Fin 512) (n : ℕ) (hn : n < 30) (hk : k (ix3 b r w) = BitVec.ofNat 32 n) :
    wrapped k (ix4 b r w 0) = BitVec.ofNat 32 n := by
  unfold wrapped
  pointwise
  rw [hk, (by decide : ∀ n : Fin 30, IntOp.cmpi .slt (BitVec.ofNat 32 n.val) 0#32 = 0#1) ⟨n, hn⟩]
  rfl

/-- The pixels' weights, where the number of edges below is from one to thirty. -/
def chosen (n : IVec S8x512x512 32) (g : FVec Ideal S8x512x512 .f32) : FVec Ideal S8x512x512 .f32 :=
  select (andi (cmpi .sgt n (broadcastInDim S8x512x512 ![] bcast_S_S8x512x512 (constantI S_ 32 0#32))) (cmpi .sle n (broadcastInDim S8x512x512 ![] bcast_S_S8x512x512 (constantI S_ 32 30#32))))
    g (broadcastInDim S8x512x512 ![] bcast_S_S8x512x512 (id (constant S_ .f32 0x00000000#32)))

/-- A pixel's weight, when it is in some bin. -/
theorem chosen_apply (n : IVec S8x512x512 32) (g : FVec Ideal S8x512x512 .f32) (b : Fin 8) (r w : Fin 512) (k : ℕ) (hk : k < 30)
    (hn : n (ix3 b r w) = BitVec.ofNat 32 (k + 1)) : chosen n g (ix3 b r w) = g (ix3 b r w) := by
  unfold chosen
  pointwise
  rw [hn, (by decide : ∀ k : Fin 30, IntOp.andi (IntOp.cmpi .sgt (BitVec.ofNat 32 (k.val + 1)) 0#32) (IntOp.cmpi .sle (BitVec.ofNat 32 (k.val + 1)) 30#32) = 1#1) ⟨k, hk⟩]
  rfl

/-- The mean of the weighted cross entropies. -/
def mean (e v : FVec Ideal S8x512x512 .f32) (n : IVec S_ 32) : FVec Ideal S1x1 .f32 :=
  shapeCast _ (Host.divf (Host.reduceAdd (Host.divf (mulf e v) (broadcastInDim S8x512x512 ![] bcast_S_S8x512x512 (constant S_ .f32 0x3F800000#32))) (constant S_ .f32 0x00000000#32) reducesTo_S8x512x512_S_d0_1_2 h_S_)
    (id (addf (sitofp .f32 n) (constant S_ .f32 0x33D6BF95#32)))) shapeCasts_S_S1x1

/-- The mean, when the terms are real and every pixel is counted. -/
theorem mean_apply (e v : FVec Ideal S8x512x512 .f32) (n : IVec S_ 32) (f g : Px → ℝ) (hf : ∀ i : Px, (e (ix3 i.1 i.2.1 i.2.2) : EReal) = (f i : EReal))
    (hg : ∀ i : Px, (v (ix3 i.1 i.2.1 i.2.2) : EReal) = (g i : EReal)) (hn : (n ix0).toNat = 2097152) :
    mean e v n (ix2 0 0) = (((∑ i, f i * g i) / (2097152 + tiny) : ℝ) : EReal) := by
  unfold mean
  pointwise
  have hd : (id (addf (sitofp (F := Ideal) .f32 n) (constant S_ .f32 0x33D6BF95#32)) ix0 : EReal) = ((2097152 + tiny : ℝ) : EReal) := by
    show (FloatOps.sitofp (F := Ideal) .f32 (n ix0) : EReal) + (Ideal.ofBits .f32 0x33D6BF95#32 : EReal) = _
    rw [RefBins.word_real _ _ hn (by norm_num), tiny_eq, ← EReal.coe_add]
    norm_num
  have ht : ∀ (b : Fin 8) (r w : Fin 512), Ideal.div (e (ix3 b r w) * v (ix3 b r w)) 1 = ((f (b, r, w) * g (b, r, w) : ℝ) : EReal) := by
    intro b r w
    rw [hf (b, r, w), hg (b, r, w), ← EReal.coe_mul, ← EReal.coe_one, Pixel.div_coe _ _ one_ne_zero, div_one]
  have hs : (∑ b : Fin 8, ∑ r : Fin 512, ∑ w : Fin 512, Ideal.div (e (ix3 b r w) * v (ix3 b r w)) 1) = ((∑ i, f i * g i : ℝ) : EReal) := by
    rw [Fintype.sum_prod_type, ← Pixel.sum_coe]
    refine Finset.sum_congr rfl fun b _ => ?_
    rw [Fintype.sum_prod_type, ← Pixel.sum_coe]
    refine Finset.sum_congr rfl fun r _ => ?_
    rw [← Pixel.sum_coe]
    exact Finset.sum_congr rfl fun w _ => ht b r w
  rw [hd, hs]
  refine Pixel.div_coe _ _ ?_
  have := tiny_pos
  positivity

/-- The labels present, as words. -/
def present (t : IVec S8x512x512 32) : IVec S8x512x512 32 :=
  extui 32 (cmpi .ne t (broadcastInDim S8x512x512 ![] bcast_S_S8x512x512 (constantI S_ 32 4294967295#32))) natLt_1_32

/-- A class is a label that is present. -/
theorem present_apply (t : IVec S8x512x512 32) (b : Fin 8) (r w : Fin 512) (c : Fin 19)
    (ht : t (ix3 b r w) = BitVec.ofNat 32 c.val) : (present t (ix3 b r w)).toNat = 1 := by
  unfold present
  pointwise
  rw [ht]
  clear ht
  revert c
  decide

variable (V0 : Valuation τ sig (Elt Ideal))

/-- The number of labels present. -/
theorem number (hg : AllGood (A V0) (T V0)) :
    (Host.reduce IntOp.addi (present (V0 (Proc.devRef .tc main_arg1))) (constantI S_ 32 0#32) reducesTo_S8x512x512_S_d0_1_2 h_S_ ix0).toNat = 2097152 := by
  have h1 : ∀ i : Px, (present (V0 (Proc.devRef .tc main_arg1)) (ix3 i.1 i.2.1 i.2.2)).toNat = 1 := by
    intro i
    obtain ⟨c, a, g⟩ := hg i
    exact present_apply _ _ _ _ c g.label
  have hs : ∑ i : Px, (present (V0 (Proc.devRef .tc main_arg1)) (ix3 i.1 i.2.1 i.2.2)).toNat = 2097152 := by
    rw [Finset.sum_congr rfl fun i _ => h1 i]
    simp [Px, Fintype.card_prod]
  exact (Reduces.sum_axes012 reducesTo_S8x512x512_S_d0_1_2 h_S_ (present (V0 (Proc.devRef .tc main_arg1))) (constantI S_ 32 0#32) rfl
    (by rw [hs]; norm_num)).trans hs

/-- The cross entropies of the image. -/
def entropies : FVec Ideal S8x512x512 .f32 :=
  entropy (V0 (Proc.devRef .tc main_arg1))
    (Host.reduce IntOp.andi (inRange (res_main_call11_v5 V0)) (constantI S_ 1 1#1) reducesTo_S8x1x512x512x1_S8x1x512x512_d4 h_S_)
    (Host.gather gather_S8x19x512x512_S8x1x512x512x1_S8x1x512x512_n_1_023_023_1_4_1111 (logSoft (res_main_call9_v5 V0)) (res_main_call11_v5 V0))

/-- The cross entropy of a pixel is minus the logarithm of its probability. -/
theorem entropies_apply (hg : AllGood (A V0) (T V0)) (i : Px) : entropies V0 (ix3 i.1 i.2.1 i.2.2) = (L (A V0) (T V0) i : EReal) := by
  obtain ⟨c, a, g⟩ := hg i
  obtain ⟨M, hM⟩ := g.max_real
  have hi := index_apply V0 i.1 i.2.1 i.2.2 c g.label
  refine (entropy_apply _ _ _ i.1 i.2.1 i.2.2 c g.label (inRange_apply _ _ _ _ c hi)).trans ?_
  rw [Gathers.planes_apply _ _ i.1 i.2.1 i.2.2 c.val c.isLt hi, logSoft_apply]
  simp only [shifted_apply]
  have hl := g.log_softmax M
  rw [show Finset.univ.fold max (⊥ : EReal) (lg (A V0) (i.1, i.2.1, i.2.2)) = (M : EReal) from hM]
  refine (congrArg (fun z : EReal => -z) hl).trans ?_
  unfold L
  rw [p_eq g]
  exact (EReal.coe_neg _).symm

/-- The weights of the image's pixels. -/
def pixelWeights : FVec Ideal S8x512x512 .f32 :=
  chosen (res_main_v65 V0) (Host.gather gather_S30_S8x512x512x1_S8x512x512_n_0_n_n_0_3_1 (RefWeights.scaled (res_main_v81 V0)) (wrapped (res_main_v88 V0)))

/-- A pixel's weight is its bin's, scaled. -/
theorem pixelWeights_apply (hg : AllGood (A V0) (T V0)) (i : Px) : pixelWeights V0 (ix3 i.1 i.2.1 i.2.2)
    = ((Model.weight (Model.count (K (A V0) (T V0))) (K (A V0) (T V0) i) / Model.top (Model.count (K (A V0) (T V0))) : ℝ) : EReal) := by
  have hb := hg.bin_lt i
  refine (chosen_apply _ _ i.1 i.2.1 i.2.2 _ hb (RefBins.edges_below V0 hg i)).trans ?_
  rw [Gathers.bins_apply _ _ i.1 i.2.1 i.2.2 _ hb (wrapped_apply _ _ _ _ _ hb (RefBins.place_apply V0 hg i))]
  exact RefWeights.image_weights V0 hg ⟨_, hb⟩

/-- The reference's loss, as its program composes it. -/
def lossTerm : FVec Ideal S1x1 .f32 :=
  mean (entropies V0) (pixelWeights V0)
    (Host.reduce IntOp.addi (present (V0 (Proc.devRef .tc main_arg1))) (constantI S_ 32 0#32) reducesTo_S8x512x512_S_d0_1_2 h_S_)

/-- The reference's loss is the model's. -/
theorem lossTerm_apply (hg : AllGood (A V0) (T V0)) :
    lossTerm V0 (ix2 0 0) = (Model.loss (Model.count (K (A V0) (T V0))) (Model.binSum (K (A V0) (T V0)) (L (A V0) (T V0))) : EReal) :=
  (mean_apply _ _ _ _ _ (entropies_apply V0 hg) (pixelWeights_apply V0 hg) (number V0 hg)).trans
    (congrArg ((↑) : ℝ → EReal) (Model.mean_eq _ hg.bin_lt _))

end Cert.RefValue

end
-- ==== Proof.Equation.lean ====
/- The kernel and the reference compute one number: both results are the loss of the bins' counts and entropies. -/
module

public import proofs.«01_k».proof.Proof.RefValue
public import proofs.«01_k».proof.Proof.KFinal
public import proofs.«01_k».proof.Defs
public import Idealize.ShloMosaic.Adequacy
public import Idealize.ShloMosaic.Init

@[expose] public section

noncomputable section

namespace Cert.Equation

open Idealize.ShloMosaic Idealize.ShloMosaic.TcCoe Idealize.SL.Sem

/-- An array of one element is known by it. -/
theorem one_element (x y : FVec Ideal ⟨2, ![1, 1]⟩ .f32) (h : x (ix2 0 0) = y (ix2 0 0)) : x = y := by
  funext i
  have e : i = ix2 0 0 := funext fun a => match a with
    | ⟨0, _⟩ => Subsingleton.elim (α := Fin 1) _ _
    | ⟨1, _⟩ => Subsingleton.elim (α := Fin 1) _ _
  rw [e, h]

/-- On logits and labels that meet the precondition, the reference's loss is the kernel's. -/
theorem losses_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hA : RefPixel.A V0 = KFinal.logits m c) (hT : RefPixel.T V0 = KFinal.labels m c) (hg : Image.AllGood (KFinal.logits m c) (KFinal.labels m c)) :
    RefValue.lossTerm V0 = Cert.KernelIdeal.Value.G3 m c := by
  apply one_element
  rw [RefValue.lossTerm_apply V0 (by rw [hA, hT]; exact hg), hA, hT]
  exact (KFinal.result m c hg).symm

/-- Where the precondition holds, every pixel is good. -/
theorem all_good (m : (ℓ : Loc Cert.KernelIdeal.nD Cert.KernelIdeal.τ Cert.KernelIdeal.sig) → Buf (Elt Ideal) ℓ) (c : Dev Cert.KernelIdeal.nD)
    (h : Cert.Pre_KernelIdeal_off_edges m) : Image.AllGood (KFinal.logits m c) (KFinal.labels m c) :=
  PreFacts.good _ _ (h c)

set_option maxRecDepth 8192 in
/-- The algebraic claim. -/
theorem algebraic : Cert.algebraic_KernelIdeal_ReferenceIdeal_pre_off_edges := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  refine losses_eq m c (StableHlo.launchContents m' c) ?_ ?_ (all_good m c hpre)
  · funext b ch r w
    exact congrFun (hagree c).1 (ix4 b ch r w)
  · funext b r w
    exact congrFun (hagree c).2 (ix3 b r w)

end Cert.Equation

end
-- ==== Proof.lean ====
module

public import proofs.«01_k».proof.Proof.Equation
public import proofs.«01_k».proof.Proof.Gen.Kernel
public import proofs.«01_k».proof.Proof.Gen.Kernel.Frame
public import proofs.«01_k».proof.Proof.Gen.KernelIdeal.Frame
public import Idealize.ShloMosaic.Lib.Quiescent

@[expose] public section

noncomputable section

namespace Cert.Proof

open Idealize.ShloMosaic Idealize.ShloMosaic.TcCoe Idealize.SL.Sem

/-- The kernel runs, keeps its arguments and ends quiet. -/
theorem frame_kernel : Cert.quiescent_Kernel := fun m ρ _ => Cert.Kernel.Gen.frame m ρ

/-- So does the kernel with its constants named. -/
theorem frame_named : Cert.quiescent_KernelIdeal := fun m ρ _ => Cert.KernelIdeal.Gen.frame m ρ

/-- And the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is the value its name stands for. -/
theorem preserves : Cert.preserves_Kernel_KernelIdeal :=
  ⟨IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl,
   IdealRules.named_const.statement _ _ _ _ _ rfl⟩

/-- The certificate. -/
theorem claim : Cert.Claim := ⟨Cert.Kernel.Gen.facts, Cert.KernelIdeal.Gen.facts, Cert.ReferenceIdeal.Gen.facts, Cert.Pre_off_edges.Gen.facts,
  frame_kernel, frame_named, fun m ρ _ => frame_named m ρ trivial, frame_reference, fun m ρ _ => frame_reference m ρ trivial, preserves, Equation.algebraic⟩

end Cert.Proof

end
